-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_bf16 [hPre_finite_bf16 : Cert.Pre_finite_bf16.Facts] (m : (ℓ : Loc Cert.KernelIdeal.nD Cert.KernelIdeal.τ Cert.KernelIdeal.sig) → Buf (Elt Ideal) ℓ) : Prop :=
  ∀ c : Dev Cert.KernelIdeal.nD,
    (Cert.Pre_finite_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_bf16 [hPre_finite_bf16 : Cert.Pre_finite_bf16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_bf16 [hKernelIdeal : Cert.KernelIdeal.Facts] [hPre_finite_bf16 : Cert.Pre_finite_bf16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_bf16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_bf16 [hReferenceIdeal : Cert.ReferenceIdeal.Facts] [hPre_finite_bf16 : Cert.Pre_finite_bf16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_bf16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_bf16 [hKernelIdeal : Cert.KernelIdeal.Facts] [hReferenceIdeal : Cert.ReferenceIdeal.Facts] [hPre_finite_bf16 : Cert.Pre_finite_bf16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_bf16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_bf16 : Cert.Pre_finite_bf16.Facts),
    quiescent_Kernel (hKernel := hKernel)
    ∧ quiescent_KernelIdeal (hKernelIdeal := hKernelIdeal)
    ∧ quiescent_KernelIdeal_pre_finite_bf16 (hKernelIdeal := hKernelIdeal) (hPre_finite_bf16 := hPre_finite_bf16)
    ∧ quiescent_ReferenceIdeal (hReferenceIdeal := hReferenceIdeal)
    ∧ quiescent_ReferenceIdeal_pre_finite_bf16 (hReferenceIdeal := hReferenceIdeal) (hPre_finite_bf16 := hPre_finite_bf16)
    ∧ preserves_Kernel_KernelIdeal
    ∧ algebraic_KernelIdeal_ReferenceIdeal_pre_finite_bf16 (hKernelIdeal := hKernelIdeal) (hReferenceIdeal := hReferenceIdeal) (hPre_finite_bf16 := hPre_finite_bf16)
-- ==== Pre_finite_bf16.lean ====
abbrev S4x1536x5120 : Shape := ⟨3, ![4, 1536, 5120]⟩
abbrev S4x1536x640 : Shape := ⟨3, ![4, 1536, 640]⟩
abbrev S_ : Shape := ⟨0, ![]⟩

class Facts : Prop where
  bcast_S_S4x1536x5120 : S_.BroadcastsInDim S4x1536x5120 (![] : Fin 0 → Fin S4x1536x5120.rank)
  reducesTo_S4x1536x5120_S_d0_1_2 : S4x1536x5120.ReducesTo [0, 1, 2] S_
  h_S_ : 0 < S_.numel
  bcast_S_S4x1536x640 : S_.BroadcastsInDim S4x1536x640 (![] : Fin 0 → Fin S4x1536x640.rank)
  reducesTo_S4x1536x640_S_d0_1_2 : S4x1536x640.ReducesTo [0, 1, 2] S_

variable [Facts]

def fn {F : FTy → Type} [FloatOps F] (main_arg0 : FVec F S4x1536x5120 .bf16) (main_arg1 : FVec F S4x1536x640 .bf16) : IVec S_ 1 :=
  let main_v0 : FVec F S4x1536x5120 .bf16 := Host.absf main_arg0
  let main_cst : FVec F S_ .bf16 := constant S_ .bf16 0x7F7F#16
  let main_v1 : FVec F S4x1536x5120 .bf16 := broadcastInDim S4x1536x5120 ![] bcast_S_S4x1536x5120 main_cst
  let main_v2 : IVec S4x1536x5120 1 := cmpf .ole main_v0 main_v1
  let main_c : IVec S_ 1 := constantI S_ 1 1#1
  let main_v3 : IVec S_ 1 := (fun x v => Host.reduce IntOp.andi x v reducesTo_S4x1536x5120_S_d0_1_2 h_S_) main_v2 main_c
  let main_v4 : FVec F S4x1536x640 .bf16 := Host.absf main_arg1
  let main_cst_0 : FVec F S_ .bf16 := constant S_ .bf16 0x7F7F#16
  let main_v5 : FVec F S4x1536x640 .bf16 := broadcastInDim S4x1536x640 ![] bcast_S_S4x1536x640 main_cst_0
  let main_v6 : IVec S4x1536x640 1 := cmpf .ole main_v4 main_v5
  let main_c_1 : IVec S_ 1 := constantI S_ 1 1#1
  let main_v7 : IVec S_ 1 := (fun x v => Host.reduce IntOp.andi x v reducesTo_S4x1536x640_S_d0_1_2 h_S_) main_v6 main_c_1
  let main_v8 : IVec S_ 1 := andi main_v3 main_v7
  main_v8
-- ==== Kernel.lean ====
abbrev S4x1536x5120 : Shape := ⟨3, ![4, 1536, 5120]⟩
abbrev S4x1536x640 : Shape := ⟨3, ![4, 1536, 640]⟩
abbrev S6144x5120 : Shape := ⟨2, ![6144, 5120]⟩
abbrev S6144x640 : Shape := ⟨2, ![6144, 640]⟩
abbrev S5120x640 : Shape := ⟨2, ![5120, 640]⟩
abbrev S5120x6144 : Shape := ⟨2, ![5120, 6144]⟩
abbrev S12x4x5120 : Shape := ⟨3, ![12, 4, 5120]⟩
abbrev S640x6144 : Shape := ⟨2, ![640, 6144]⟩
abbrev S12x4x640 : Shape := ⟨3, ![12, 4, 640]⟩
abbrev S6144x512 : Shape := ⟨2, ![6144, 512]⟩
abbrev S512x640 : Shape := ⟨2, ![512, 640]⟩
abbrev S512x6144 : Shape := ⟨2, ![512, 6144]⟩
abbrev S12x4x512 : Shape := ⟨3, ![12, 4, 512]⟩
abbrev S2x512x512 : Shape := ⟨3, ![2, 512, 512]⟩
abbrev S128x640 : Shape := ⟨2, ![128, 640]⟩
abbrev S640 : Shape := ⟨1, ![640]⟩
abbrev S1x640 : Shape := ⟨2, ![1, 640]⟩
abbrev S256x640 : Shape := ⟨2, ![256, 640]⟩
abbrev S640x128 : Shape := ⟨2, ![640, 128]⟩
abbrev S1x1x640 : Shape := ⟨3, ![1, 1, 640]⟩
abbrev S640x512 : Shape := ⟨2, ![640, 512]⟩
abbrev S128x512 : Shape := ⟨2, ![128, 512]⟩
abbrev S512 : Shape := ⟨1, ![512]⟩
abbrev S1x512 : Shape := ⟨2, ![1, 512]⟩
abbrev S256x512 : Shape := ⟨2, ![256, 512]⟩
abbrev S512x128 : Shape := ⟨2, ![512, 128]⟩
abbrev S1x128x512 : Shape := ⟨3, ![1, 128, 512]⟩
abbrev S1x1x512 : Shape := ⟨3, ![1, 1, 512]⟩
abbrev S1x512x512 : Shape := ⟨3, ![1, 512, 512]⟩
abbrev S512x512 : Shape := ⟨2, ![512, 512]⟩
abbrev S5120x4x12 : Shape := ⟨3, ![5120, 4, 12]⟩
abbrev S640x4x12 : Shape := ⟨3, ![640, 4, 12]⟩

abbrev nBuf : Space → Nat
  | .hbm => 11
  | .vmem => 13
  | .smem => 0
  | _ => 0

abbrev bufTy : (tb : Table) → Fin (tcTables nBuf tb) → BufTy
  | .hbm, ⟨0, _⟩ => ⟨S4x1536x5120, .bf16⟩
  | .hbm, ⟨1, _⟩ => ⟨S4x1536x640, .bf16⟩
  | .hbm, ⟨2, _⟩ => ⟨S6144x5120, .bf16⟩
  | .hbm, ⟨3, _⟩ => ⟨S6144x640, .bf16⟩
  | .hbm, ⟨4, _⟩ => ⟨S5120x640, .f32⟩
  | .hbm, ⟨5, _⟩ => ⟨S5120x6144, .fp8e4m3⟩
  | .hbm, ⟨6, _⟩ => ⟨S12x4x5120, .f32⟩
  | .hbm, ⟨7, _⟩ => ⟨S640x6144, .fp8e5m2⟩
  | .hbm, ⟨8, _⟩ => ⟨S12x4x640, .f32⟩
  | .hbm, ⟨9, _⟩ => ⟨S5120x4x12, .f32⟩
  | .hbm, ⟨10, _⟩ => ⟨S640x4x12, .f32⟩
  | .local _ .vmem, ⟨0, _⟩ => ⟨S6144x512, .bf16⟩
  | .local _ .vmem, ⟨1, _⟩ => ⟨S6144x512, .bf16⟩
  | .local _ .vmem, ⟨2, _⟩ => ⟨S6144x640, .bf16⟩
  | .local _ .vmem, ⟨3, _⟩ => ⟨S512x640, .f32⟩
  | .local _ .vmem, ⟨4, _⟩ => ⟨S512x640, .f32⟩
  | .local _ .vmem, ⟨5, _⟩ => ⟨S512x6144, .fp8e4m3⟩
  | .local _ .vmem, ⟨6, _⟩ => ⟨S512x6144, .fp8e4m3⟩
  | .local _ .vmem, ⟨7, _⟩ => ⟨S12x4x512, .f32⟩
  | .local _ .vmem, ⟨8, _⟩ => ⟨S12x4x512, .f32⟩
  | .local _ .vmem, ⟨9, _⟩ => ⟨S640x6144, .fp8e5m2⟩
  | .local _ .vmem, ⟨10, _⟩ => ⟨S12x4x640, .f32⟩
  | .local _ .vmem, ⟨11, _⟩ => ⟨S640x6144, .bf16⟩
  | .local _ .vmem, ⟨12, _⟩ => ⟨S2x512x512, .bf16⟩
  | _, _ => ⟨S4x1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S6144x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x6144 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S640x6144 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x4x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x1536x5120 : Shape := ⟨3, ![4, 1536, 5120]⟩
abbrev S4x1536x640 : Shape := ⟨3, ![4, 1536, 640]⟩
abbrev S5120x640 : Shape := ⟨2, ![5120, 640]⟩
abbrev S5120x6144 : Shape := ⟨2, ![5120, 6144]⟩
abbrev S5120x4x12 : Shape := ⟨3, ![5120, 4, 12]⟩
abbrev S640x6144 : Shape := ⟨2, ![640, 6144]⟩
abbrev S640x4x12 : Shape := ⟨3, ![640, 4, 12]⟩
abbrev S4x12x128x5120 : Shape := ⟨4, ![4, 12, 128, 5120]⟩
abbrev S4x12x5120 : Shape := ⟨3, ![4, 12, 5120]⟩
abbrev S4x12x1x5120 : Shape := ⟨4, ![4, 12, 1, 5120]⟩
abbrev S6144x5120 : Shape := ⟨2, ![6144, 5120]⟩
abbrev S4x12x128x640 : Shape := ⟨4, ![4, 12, 128, 640]⟩
abbrev S4x12x640 : Shape := ⟨3, ![4, 12, 640]⟩
abbrev S4x12x1x640 : Shape := ⟨4, ![4, 12, 1, 640]⟩
abbrev S6144x640 : Shape := ⟨2, ![6144, 640]⟩

abbrev nBuf : Space → Nat
  | .hbm => 7
  | .vmem => 7
  | .smem => 0
  | _ => 0

abbrev bufTy : (tb : Table) → Fin (tcTables nBuf tb) → BufTy
  | .hbm, ⟨0, _⟩ => ⟨S4x1536x5120, .bf16⟩
  | .hbm, ⟨1, _⟩ => ⟨S4x1536x640, .bf16⟩
  | .hbm, ⟨2, _⟩ => ⟨S5120x640, .f32⟩
  | .hbm, ⟨3, _⟩ => ⟨S5120x6144, .fp8e4m3⟩
  | .hbm, ⟨4, _⟩ => ⟨S5120x4x12, .f32⟩
  | .hbm, ⟨5, _⟩ => ⟨S640x6144, .fp8e5m2⟩
  | .hbm, ⟨6, _⟩ => ⟨S640x4x12, .f32⟩
  | .local _ .vmem, ⟨0, _⟩ => ⟨S4x1536x5120, .bf16⟩
  | .local _ .vmem, ⟨1, _⟩ => ⟨S4x1536x640, .bf16⟩
  | .local _ .vmem, ⟨2, _⟩ => ⟨S5120x640, .f32⟩
  | .local _ .vmem, ⟨3, _⟩ => ⟨S5120x6144, .fp8e4m3⟩
  | .local _ .vmem, ⟨4, _⟩ => ⟨S5120x4x12, .f32⟩
  | .local _ .vmem, ⟨5, _⟩ => ⟨S640x6144, .fp8e5m2⟩
  | .local _ .vmem, ⟨6, _⟩ => ⟨S640x4x12, .f32⟩
  | _, _ => ⟨S4x1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1536x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1536x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x4x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S640x6144 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S640x4x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelBody.lean ====
/- The original program's frame: what the two runs of its body share. Nothing of what it leaves in its outputs is named. -/
module

public import proofs.«01_k».proof.Proof.Gen.Kernel.Frame
public import proofs.«01_k».proof.Proof.Gen.Kernel.Skeleton

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers written after the launch, from outputs nothing is named of. -/
def T0 : Finset (Ref sig .tc) := {main_v3, main_v4}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The argument arrays end unchanged, from a run that ends with the inputs' arrays unchanged. -/
theorem frameR_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs -/

/-- Each window's current staging memref at point `t`, spelled as the pipeline passes it (`bodyAt0`), and its wholeness. -/
abbrev ms0_0 (t : Fin cfg0.N) : Memref sig .tc .vmem S6144x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x640 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x640 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x6144 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x4x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S640x6144 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x4x640 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S640x6144 .bf16 := Memref.whole cc0_scratch0
abbrev scM0_1 : Memref sig .tc .vmem S2x512x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.KernelRunB.lean ====
/- The original program's body at a later grid point. -/
module

public import proofs.«01_k».proof.Proof.KernelBody

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2868000 in
/-- The body at a later grid point: it runs, and leaves the two inputs' buffers as they were. -/
theorem kernelRun0_B (c : Dev nD) (i : grid0.Coords) (arg1 : Memref sig .tc .vmem S6144x512 .bf16) (harg1 : arg1.IsWhole) (arg2 : Memref sig .tc .vmem S6144x640 .bf16) (harg2 : arg2.IsWhole) (arg3 : Memref sig .tc .vmem S512x640 .f32) (harg3 : arg3.IsWhole) (arg4 : Memref sig .tc .vmem S512x6144 .fp8e4m3) (harg4 : arg4.IsWhole) (arg5 : Memref sig .tc .vmem S12x4x512 .f32) (harg5 : arg5.IsWhole) (arg6 : Memref sig .tc .vmem S640x6144 .fp8e5m2) (harg6 : arg6.IsWhole) (arg7 : Memref sig .tc .vmem S12x4x640 .f32) (harg7 : arg7.IsWhole) (arg8 : Memref sig .tc .vmem S640x6144 .bf16) (harg8 : arg8.IsWhole) (arg9 : Memref sig .tc .vmem S2x512x512 .bf16) (harg9 : arg9.IsWhole) (hc0 : ¬cond0_0 i)
    (x0 : Vec F S6144x512 .bf16) (x1 : Vec F S6144x640 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_wgrad_quant i arg1 harg1 arg2 harg2 arg3 harg3 arg4 harg4 arg5 harg5 arg6 harg6 arg7 harg7 arg8 harg8 arg9 harg9) K := by
    intro E K
    simp only [cc0_wgrad_quant_eq_skeleton]; unfold cc0_wgrad_quant_skel
    simp only [k0_part146_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Body

end
-- ==== Proof.KernelRunA.lean ====
/- The original program's body at the first grid point. -/
module

public import proofs.«01_k».proof.Proof.KernelRunB

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 5588000 in
/-- The body at the first grid point: it runs, and leaves the two inputs' buffers as they were. -/
theorem kernelRun0_A (c : Dev nD) (i : grid0.Coords) (arg1 : Memref sig .tc .vmem S6144x512 .bf16) (harg1 : arg1.IsWhole) (arg2 : Memref sig .tc .vmem S6144x640 .bf16) (harg2 : arg2.IsWhole) (arg3 : Memref sig .tc .vmem S512x640 .f32) (harg3 : arg3.IsWhole) (arg4 : Memref sig .tc .vmem S512x6144 .fp8e4m3) (harg4 : arg4.IsWhole) (arg5 : Memref sig .tc .vmem S12x4x512 .f32) (harg5 : arg5.IsWhole) (arg6 : Memref sig .tc .vmem S640x6144 .fp8e5m2) (harg6 : arg6.IsWhole) (arg7 : Memref sig .tc .vmem S12x4x640 .f32) (harg7 : arg7.IsWhole) (arg8 : Memref sig .tc .vmem S640x6144 .bf16) (harg8 : arg8.IsWhole) (arg9 : Memref sig .tc .vmem S2x512x512 .bf16) (harg9 : arg9.IsWhole) (hc0 : cond0_0 i)
    (x0 : Vec F S6144x512 .bf16) (x1 : Vec F S6144x640 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_wgrad_quant i arg1 harg1 arg2 harg2 arg3 harg3 arg4 harg4 arg5 harg5 arg6 harg6 arg7 harg7 arg8 harg8 arg9 harg9) K := by
    intro E K
    simp only [cc0_wgrad_quant_eq_skeleton]; unfold cc0_wgrad_quant_skel
    simp only [k0_part146_eq_skeleton, k0_part73_eq_skeleton, k0_part72_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Body

end
-- ==== Proof.KernelFrame.lean ====
/- The frame of the original program, its outputs' contents forgotten. -/
module

public import proofs.«01_k».proof.Proof.KernelRunA
public import Idealize.ShloMosaic.Lib.Claim

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The outputs: nothing of what the body leaves in them is named. -/
def forgets0 : Fin 7 → Bool := fun w => w.val == 2 || w.val == 3 || w.val == 4 || w.val == 5 || w.val == 6

/-- The proof data of the pipeline on core `c`: each input's buffer at its block, the outputs at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- Its arrays are what the launch finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1600000 in
/-- The body at any point, the first or a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 10 := lt_of_lt_of_eq t.isLt (show cfg0.N = 10 from N_0)
  by_cases h0 : t.val % 10 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (fun h => h0 ((hcond0_0 t).mp h)) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- The launch: the inputs' arrays end unchanged, and every semaphore counter at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The same without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frameR_of m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Body

end
-- ==== Proof.BodyKit.lean ====
/- What the two runs of the kernel's body share: the one branch condition in closed form, the staging buffers at a grid
   point, the two scratch buffers, and the launch's invariant with the scratch buffers named. -/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs -/

/-- Each window's current staging memref at point `t`, spelled as the pipeline passes it (`bodyAt0`), and its wholeness. -/
abbrev ms0_0 (t : Fin cfg0.N) : Memref sig .tc .vmem S6144x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x640 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x640 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x6144 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x4x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S640x6144 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x4x640 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S640x6144 .bf16 := Memref.whole cc0_scratch0
abbrev scM0_1 : Memref sig .tc .vmem S2x512x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.Block.lean ====
/- What the kernel computes on one block of 128 rows, as functions of the block: the exponent of each column's scale,
   the scale, the clamped scaled values, the codes and the dequantised values. One definition for any number of columns
   and any of the two fp8 formats; the kernel uses it at 512 columns (e4m3, the strip of `x`) and at 640 (e5m2, `dy`). -/
module

public import proofs.«01_k».proof.Proof.Gen.KernelIdeal
public import Idealize.ShloMosaic.Lib.ValueIdxCore

@[expose] public section

noncomputable section

namespace Cert.Quant

open Idealize.ShloMosaic Idealize.ShloMosaic.ValueIdx

variable {F : FTy → Type} [FloatOps F]

/-- An array of `r` rows and `c` columns. -/
abbrev Sh (r c : ℕ) : Shape := ⟨2, ![r, c]⟩
/-- A list of `c` elements. -/
abbrev Sh1 (c : ℕ) : Shape := ⟨1, ![c]⟩

/-- The side conditions of the operations on a block of `c` columns. -/
structure Cols (c : ℕ) : Prop where
  self : (Sh 128 c).ShapeCasts (Sh 128 c)
  rows : (Sh 128 c).Reduces [0] (Sh1 c)
  up : (Sh1 c).ShapeCasts (Sh 1 c)
  iota : (Sh 256 c).Iotas .tc 32 [0]
  wide : (Sh 1 c).Broadcasts (Sh 256 c)
  count : (Sh 256 c).Reduces [0] (Sh1 c)
  spread : (Sh 1 c).Broadcasts (Sh 128 c)
  turn : (Sh 128 c).Transposes [1, 0] (Sh c 128)

/-- The kernel's own facts say so for the 512 columns of a strip of `x` … -/
theorem cols512 : Cols 512 := by
  constructor
  · exact Cert.KernelIdeal.Gen.shapeCasts_S128x512_S128x512
  · exact Cert.KernelIdeal.Gen.reduces_S128x512_S512
  · exact Cert.KernelIdeal.Gen.shapeCasts_S512_S1x512
  · exact Cert.KernelIdeal.Gen.iota_S256x512_d0_w32
  · exact Cert.KernelIdeal.Gen.broadcasts_S1x512_S256x512
  · exact Cert.KernelIdeal.Gen.reduces_S256x512_S512
  · exact Cert.KernelIdeal.Gen.broadcasts_S1x512_S128x512
  · exact Cert.KernelIdeal.Gen.transposes_S128x512_p1_0_S512x128

/-- … and for the 640 columns of `dy`. -/
theorem cols640 : Cols 640 := by
  constructor
  · exact Cert.KernelIdeal.Gen.shapeCasts_S128x640_S128x640
  · exact Cert.KernelIdeal.Gen.reduces_S128x640_S640
  · exact Cert.KernelIdeal.Gen.shapeCasts_S640_S1x640
  · exact Cert.KernelIdeal.Gen.iota_S256x640_d0_w32
  · exact Cert.KernelIdeal.Gen.broadcasts_S1x640_S256x640
  · exact Cert.KernelIdeal.Gen.reduces_S256x640_S640
  · exact Cert.KernelIdeal.Gen.broadcasts_S1x640_S128x640
  · exact Cert.KernelIdeal.Gen.transposes_S128x640_p1_0_S640x128

/-- An fp8 format with its largest number, as the kernel's code spells them: the word of the reciprocal the largest
    magnitude is multiplied by, and the words of the two clamps. -/
structure Fmt where
  φ : FTy
  lt : φ.bits < FTy.bits .bf16
  recip : BitVec 32
  lo : BitVec 32
  hi : BitVec 32

/-- e4m3, largest number 448. -/
abbrev e4m3 : Fmt := ⟨.fp8e4m3, by decide, 0x3B124925#32, 0xC3E00000#32, 0x43E00000#32⟩
/-- e5m2, largest number 57344. -/
abbrev e5m2 : Fmt := ⟨.fp8e5m2, by decide, 0x37924925#32, 0xC7600000#32, 0x47600000#32⟩

variable {c : ℕ}

/-- Each column's largest magnitude over the largest number of the format. -/
def ratio (h : Cols c) (f : Fmt) (v : FVec F (Sh 128 c) .bf16) : FVec F (Sh 1 c) .f32 :=
  mulf (extf .f32 (shapeCast (Sh 1 c)
      (multiReduction .maximumf [0] (Sh1 c) (absf (shapeCast (Sh 128 c) v h.self)) 0xFF80#16 h.rows (.inr rfl) rfl) h.up)
      (by decide : FTy.bits .bf16 < FTy.bits .f32))
    (broadcast (Sh 1 c) (Scalar.ofBits .f32 f.recip))

/-- The biased exponent of a ratio: 255 less the number of powers of two above it. -/
def field (h : Cols c) (r : FVec F (Sh 1 c) .f32) : IVec (Sh 1 c) 32 :=
  subi (broadcast (Sh 1 c) 255#32)
    (shapeCast (Sh 1 c)
      (multiReductionI .add [0] (Sh1 c)
        (extui 32 (cmpf .olt (broadcastTo (Sh 256 c) r h.wide)
          (bitcastToFloat .f32 (shli (iota .tc (Sh 256 c) 32 [0] h.iota) (broadcast (Sh 256 c) 23#32))))
          (by decide : 1 < 32))
        0#32 h.count rfl) h.up)

/-- The exponent of a scale, from the biased exponent of the ratio. -/
def exponent (w : IVec (Sh 1 c) 32) : IVec (Sh 1 c) 32 :=
  select (ori (cmpi .eq w (broadcast (Sh 1 c) 0#32)) (cmpi .eq w (broadcast (Sh 1 c) 255#32)))
    (broadcast (Sh 1 c) 0#32) (subi w (broadcast (Sh 1 c) 126#32))

/-- The exponent of each column's scale. -/
def expo (h : Cols c) (f : Fmt) (v : FVec F (Sh 128 c) .bf16) : IVec (Sh 1 c) 32 :=
  exponent (field h (ratio h f v))

/-- Each column's scale, a power of two. -/
def scale (h : Cols c) (f : Fmt) (v : FVec F (Sh 128 c) .bf16) : FVec F (Sh 1 c) .f32 :=
  bitcastToFloat .f32 (shli (addi (broadcast (Sh 1 c) 127#32) (expo h f v)) (broadcast (Sh 1 c) 23#32))

/-- Its inverse. -/
def inverse (h : Cols c) (f : Fmt) (v : FVec F (Sh 128 c) .bf16) : FVec F (Sh 1 c) .f32 :=
  bitcastToFloat .f32 (shli (subi (broadcast (Sh 1 c) 127#32) (expo h f v)) (broadcast (Sh 1 c) 23#32))

/-- The block by the inverse scales, clamped to the format's range. -/
def scaled (h : Cols c) (f : Fmt) (v : FVec F (Sh 128 c) .bf16) : FVec F (Sh 128 c) .bf16 :=
  minimumf (broadcast (Sh 128 c) (Scalar.truncf .bf16 (by decide : FTy.bits .bf16 < FTy.bits .f32) (Scalar.ofBits .f32 f.hi)))
    (maximumf (broadcast (Sh 128 c) (Scalar.truncf .bf16 (by decide : FTy.bits .bf16 < FTy.bits .f32) (Scalar.ofBits .f32 f.lo)))
      (mulf (shapeCast (Sh 128 c) v h.self)
        (broadcastTo (Sh 128 c) (truncf .bf16 (inverse h f v) (by decide : FTy.bits .bf16 < FTy.bits .f32)) h.spread)))

/-- The block's codes, one row for each column. -/
def codes (h : Cols c) (f : Fmt) (v : FVec F (Sh 128 c) .bf16) : FVec F (Sh c 128) f.φ :=
  truncf f.φ (transpose (Sh c 128) [1, 0] (scaled h f v) h.turn) f.lt

/-- The block's values read back from the codes. -/
def deq (h : Cols c) (f : Fmt) (v : FVec F (Sh 128 c) .bf16) : FVec F (Sh 128 c) .bf16 :=
  mulf (extf .bf16 (truncf f.φ (scaled h f v) f.lt) f.lt)
    (broadcastTo (Sh 128 c) (truncf .bf16 (scale h f v) (by decide : FTy.bits .bf16 < FTy.bits .f32)) h.spread)

/-- The same, one row for each column. -/
def deqT (h : Cols c) (f : Fmt) (v : FVec F (Sh 128 c) .bf16) : FVec F (Sh c 128) .bf16 :=
  transpose (Sh c 128) [1, 0] (deq h f v) h.turn

/-! ## The whole array, block by block -/

/-- Rows `128 b …` of an array of 6144 rows. -/
def blk (x : FVec F (Sh 6144 c) .bf16) (b : Fin 48) : FVec F (Sh 128 c) .bf16 :=
  fun j => x (ix2 ⟨128 * b.val + (j 0).val, by have := b.isLt; have := idx2_lt0 j; omega⟩ (j 1))

/-- The block a row is in, … -/
abbrev blockOf (t : Fin 6144) : Fin 48 := ⟨t.val / 128, by have := t.isLt; omega⟩
/-- … and its place in the block. -/
abbrev placeOf (t : Fin 6144) : Fin 128 := ⟨t.val % 128, Nat.mod_lt _ (by decide)⟩
/-- The block of batch `n` and place `k` in the batch. -/
abbrev blockAt (k : Fin 12) (n : Fin 4) : Fin 48 := ⟨12 * n.val + k.val, by have := k.isLt; have := n.isLt; omega⟩

/-- Every block's codes. -/
def codesAll (h : Cols c) (f : Fmt) (x : FVec F (Sh 6144 c) .bf16) : FVec F (Sh c 6144) f.φ :=
  fun i => codes h f (blk x (blockOf (i 1))) (ix2 (i 0) (placeOf (i 1)))

/-- Every block's dequantised values, one row for each column. -/
def deqTAll (h : Cols c) (f : Fmt) (x : FVec F (Sh 6144 c) .bf16) : FVec F (Sh c 6144) .bf16 :=
  fun i => deqT h f (blk x (blockOf (i 1))) (ix2 (i 0) (placeOf (i 1)))

/-- Every block's scales. -/
def scaleAll (h : Cols c) (f : Fmt) (x : FVec F (Sh 6144 c) .bf16) : FVec F ⟨3, ![12, 4, c]⟩ .f32 :=
  fun i => scale h f (blk x (blockAt (i 0) (i 1))) (ix2 0 (i 2))

/-- Chunk `k` of the dequantised strip: its rows `512 k …`. -/
def chunk (h : Cols c) (f : Fmt) (x : FVec F (Sh 6144 c) .bf16) (k : Fin 12) : FVec F (Sh 512 c) .bf16 :=
  fun j => deq h f (blk x ⟨4 * k.val + (j 0).val / 128, by have := k.isLt; have := idx2_lt0 j; omega⟩)
    (ix2 ⟨(j 0).val % 128, Nat.mod_lt _ (by decide)⟩ (j 1))

open Cert.KernelIdeal Cert.KernelIdeal.Gen in
/-- The product of chunk `k` of the dequantised strip and the same columns of the transposed `dy`. -/
def part (gw : FVec F (Sh 640 6144) .bf16) (x : FVec F (Sh 6144 512) .bf16) (k : Fin 12) : FVec F (Sh 640 512) .f32 :=
  matmul dot_S640x512_S512x512_S640x512_1_0_0_1_n_n none
    (fun i => gw (ix2 (i 0) ⟨512 * k.val + (i 1).val, by have := k.isLt; have := idx2_lt1 i; omega⟩) : FVec F (Sh 640 512) .bf16)
    (chunk cols512 e4m3 x k) (constant (Sh 640 512) .f32 0x00000000#32)

/-- The sum of the first `n` products, in order, from zero. -/
def acc (gw : FVec F (Sh 640 6144) .bf16) (x : FVec F (Sh 6144 512) .bf16) : (n : ℕ) → n ≤ 12 → FVec F (Sh 640 512) .f32
  | 0, _ => constant (Sh 640 512) .f32 0x00000000#32
  | n + 1, hn => addf (acc gw x n (Nat.le_of_succ_le hn)) (part gw x ⟨n, hn⟩)

/-- The strip's rows of the gradient. -/
def gradStrip (gw : FVec F (Sh 640 6144) .bf16) (x : FVec F (Sh 6144 512) .bf16) : FVec F (Sh 512 640) .f32 :=
  transpose (Sh 512 640) [1, 0] (acc gw x 12 le_rfl) Cert.KernelIdeal.Gen.transposes_S640x512_p1_0_S512x640

end Cert.Quant

end
-- ==== Proof.Written.lean ====
/- What an array holds after 48 stores, one for each block of rows: the store that holds an index and is not written over
   gives its value. The lists the kernel's body leaves — the codes (along the columns), the scales (one row each) and the
   two slots of dequantised rows — are of this form. -/
module

public import proofs.«01_k».proof.Proof.Block
public import Idealize.ShloMosaic.Lib.Pipeline.Value

@[expose] public section

noncomputable section

namespace Cert.Quant

open Idealize.ShloMosaic Idealize.ShloMosaic.ValueIdx

variable {F : FTy → Type} [FloatOps F] {c : ℕ}

section UpTo

variable {S : Shape} {e : EltTy} {size : Fin S.rank → ℕ} (off : Fin 48 → Fin S.rank → ℕ)
  (inb : ∀ b a, off b a + size a ≤ S.size a) (P : Fin 48 → (⟨S.rank, size⟩ : Shape).Idx → Elt F e)

/-- The first `n` of 48 stores, the last of them first. -/
def upTo : (n : ℕ) → n ≤ 48 → List (View.Piece (Elt F) S e)
  | 0, _ => []
  | n + 1, hn => ⟨Rect.unit (off ⟨n, hn⟩) size (inb ⟨n, hn⟩), P ⟨n, hn⟩⟩ :: upTo n (Nat.le_of_succ_le hn)

/-- Store `b` of them holds the indices of its rectangle. -/
theorem mem_upTo (b : Fin 48) (y : S.Idx) (hy : ∀ a, off b a ≤ y a ∧ (y a : ℕ) < off b a + size a) :
    ∀ (n : ℕ) (hn : n ≤ 48), b.val < n → ∃ p ∈ upTo off inb P n hn, y ∈ p.1.set
  | 0, _, hb => absurd hb (Nat.not_lt_zero _)
  | n + 1, hn, hb => by
    rcases Nat.lt_succ_iff_lt_or_eq.1 hb with h | h
    · obtain ⟨p, hp, hm⟩ := mem_upTo b y hy n (Nat.le_of_succ_le hn) h
      exact ⟨p, List.mem_cons_of_mem _ hp, hm⟩
    · obtain rfl : b = ⟨n, hn⟩ := Fin.ext h
      exact ⟨⟨Rect.unit (off ⟨n, hn⟩) size (inb ⟨n, hn⟩), P ⟨n, hn⟩⟩, List.mem_cons_self, (Rect.mem_set_unit (inb := inb ⟨n, hn⟩)).mpr hy⟩

/-- What they leave at an index store `b` holds and no later one does. -/
theorem canon_upTo (b : Fin 48) (y : S.Idx) (x : (⟨S.rank, size⟩ : Shape).Idx) (hy : ∀ a, (y a : ℕ) = off b a + x a) :
    ∀ (n : ℕ) (hn : n ≤ 48), b.val < n →
      (∀ m : Fin 48, b.val < m.val → m.val < n → ¬ ∀ a, off m a ≤ y a ∧ (y a : ℕ) < off m a + size a) →
      View.canon (upTo off inb P n hn) y = P b x
  | 0, _, hb, _ => absurd hb (Nat.not_lt_zero _)
  | n + 1, hn, hb, hd => by
    rcases Nat.lt_succ_iff_lt_or_eq.1 hb with h | h
    · have hm : y ∉ (Rect.unit (off ⟨n, hn⟩) size (inb ⟨n, hn⟩)).set :=
        fun hm => hd ⟨n, hn⟩ h (Nat.lt_succ_self n) (Rect.mem_set_unit.mp hm)
      rw [upTo, View.canon_cons_of_not_mem _ _ hm]
      exact canon_upTo b y x hy n (Nat.le_of_succ_le hn) h fun m h1 h2 => hd m h1 (Nat.lt_succ_of_lt h2)
    · obtain rfl : b = ⟨n, hn⟩ := Fin.ext h
      have e : y = (Rect.unit (off ⟨n, hn⟩) size (inb ⟨n, hn⟩)).emb x := funext fun a => Fin.ext (by
        rw [Rect.emb_apply]; show _ = off ⟨n, hn⟩ a + 1 * (x a : ℕ); rw [hy a]; omega)
      rw [upTo, e]
      exact View.canon_cons_emb _ _ _ _

end UpTo

/-! ## Along the columns: the codes and the transposed values -/

section Columns

variable {e : EltTy} (P : Fin 48 → (Sh c 128).Idx → Elt F e)

/-- Block `b` goes to columns `128 b …`. -/
abbrev colOff (b : Fin 48) : Fin (Sh c 6144).rank → ℕ := ![0, 128 * b.val]

theorem colInb (b : Fin 48) (a : Fin (Sh c 6144).rank) : colOff (c := c) b a + (![c, 128] : Fin 2 → ℕ) a ≤ (Sh c 6144).size a := by
  have := b.isLt
  match a with
  | ⟨0, _⟩ => show 0 + c ≤ c; omega
  | ⟨1, _⟩ => show 128 * b.val + 128 ≤ 6144; omega

/-- The 48 stores along the columns. -/
abbrev colPieces (n : ℕ) (hn : n ≤ 48) : List (View.Piece (Elt F) (Sh c 6144) e) :=
  upTo (S := Sh c 6144) (size := ![c, 128]) colOff colInb P n hn

/-- Every index is in one of them, … -/
theorem col_cover (y : (Sh c 6144).Idx) : ∃ p ∈ colPieces P 48 le_rfl, y ∈ p.1.set := by
  have h0 := idx2_lt0 y; have h1 := idx2_lt1 y
  refine mem_upTo _ _ P (blockOf (y 1)) y (fun a => ?_) 48 le_rfl (blockOf (y 1)).isLt
  match a with
  | ⟨0, _⟩ => exact ⟨Nat.zero_le _, by show (y 0).val < 0 + c; omega⟩
  | ⟨1, _⟩ => show 128 * ((y 1).val / 128) ≤ (y 1).val ∧ (y 1).val < 128 * ((y 1).val / 128) + 128; omega

/-- … and holds what that block's store put there. -/
theorem canon_col (y : (Sh c 6144).Idx) :
    View.canon (colPieces P 48 le_rfl) y = P (blockOf (y 1)) (ix2 (y 0) (placeOf (y 1))) := by
  have h0 := idx2_lt0 y; have h1 := idx2_lt1 y
  refine canon_upTo _ _ P (blockOf (y 1)) y (ix2 (y 0) (placeOf (y 1))) (fun a => ?_) 48 le_rfl (blockOf (y 1)).isLt ?_
  · match a with
    | ⟨0, _⟩ => show (y 0).val = 0 + (y 0).val; omega
    | ⟨1, _⟩ => show (y 1).val = 128 * ((y 1).val / 128) + (y 1).val % 128; omega
  · intro m hm _ hall
    have h := (hall 1).1
    change 128 * m.val ≤ (y 1).val at h
    change (y 1).val / 128 < m.val at hm
    omega

end Columns

/-! ## The scales: one row for each block -/

section Rows

variable {e : EltTy} (P : Fin 48 → (⟨3, ![1, 1, c]⟩ : Shape).Idx → Elt F e)

/-- Block `b` goes to row `(b mod 12, b / 12)`. -/
abbrev rowOff (b : Fin 48) : Fin (⟨3, ![12, 4, c]⟩ : Shape).rank → ℕ := ![b.val % 12, b.val / 12, 0]

theorem rowInb (b : Fin 48) (a : Fin (⟨3, ![12, 4, c]⟩ : Shape).rank) :
    rowOff (c := c) b a + (![1, 1, c] : Fin 3 → ℕ) a ≤ (⟨3, ![12, 4, c]⟩ : Shape).size a := by
  have := b.isLt
  match a with
  | ⟨0, _⟩ => show b.val % 12 + 1 ≤ 12; omega
  | ⟨1, _⟩ => show b.val / 12 + 1 ≤ 4; omega
  | ⟨2, _⟩ => show 0 + c ≤ c; omega

/-- The 48 stores of a row each. -/
abbrev rowPieces (n : ℕ) (hn : n ≤ 48) : List (View.Piece (Elt F) ⟨3, ![12, 4, c]⟩ e) :=
  upTo (S := ⟨3, ![12, 4, c]⟩) (size := ![1, 1, c]) rowOff rowInb P n hn

theorem row_cover (y : (⟨3, ![12, 4, c]⟩ : Shape).Idx) : ∃ p ∈ rowPieces P 48 le_rfl, y ∈ p.1.set := by
  have h0 : (y 0).val < 12 := (y 0).isLt
  have h1 : (y 1).val < 4 := (y 1).isLt
  have h2 : (y 2).val < c := (y 2).isLt
  refine mem_upTo _ _ P (blockAt (y 0) (y 1)) y (fun a => ?_) 48 le_rfl (blockAt (y 0) (y 1)).isLt
  match a with
  | ⟨0, _⟩ => show (12 * (y 1).val + (y 0).val) % 12 ≤ (y 0).val ∧ (y 0).val < (12 * (y 1).val + (y 0).val) % 12 + 1; omega
  | ⟨1, _⟩ => show (12 * (y 1).val + (y 0).val) / 12 ≤ (y 1).val ∧ (y 1).val < (12 * (y 1).val + (y 0).val) / 12 + 1; omega
  | ⟨2, _⟩ => exact ⟨Nat.zero_le _, by show (y 2).val < 0 + c; omega⟩

theorem canon_row_at (y : (⟨3, ![12, 4, c]⟩ : Shape).Idx) (b : Fin 48) (e0 : (y 0).val = b.val % 12) (e1 : (y 1).val = b.val / 12) :
    View.canon (rowPieces P 48 le_rfl) y = P b (ix3 0 0 (y 2)) := by
  have hy : ∀ a, (y a : ℕ) = rowOff b a + (ix3 (0 : Fin 1) (0 : Fin 1) (y 2) : (⟨3, ![1, 1, c]⟩ : Shape).Idx) a := fun a => by
    match a with
    | ⟨0, _⟩ => exact e0
    | ⟨1, _⟩ => exact e1
    | ⟨2, _⟩ => exact (Nat.zero_add _).symm
  refine canon_upTo (S := ⟨3, ![12, 4, c]⟩) (size := ![1, 1, c]) rowOff rowInb P b y (ix3 (0 : Fin 1) (0 : Fin 1) (y 2)) hy 48 le_rfl b.isLt ?_
  · intro m hm _ hall
    have ha : m.val % 12 ≤ (y 0).val ∧ (y 0).val < m.val % 12 + 1 := hall 0
    have hb : m.val / 12 ≤ (y 1).val ∧ (y 1).val < m.val / 12 + 1 := hall 1
    omega

theorem canon_row (y : (⟨3, ![12, 4, c]⟩ : Shape).Idx) :
    View.canon (rowPieces P 48 le_rfl) y = P (blockAt (y 0) (y 1)) (ix3 0 0 (y 2)) := by
  have h0 : (y 0).val < 12 := (y 0).isLt
  have h1 : (y 1).val < 4 := (y 1).isLt
  have e : (blockAt (y 0) (y 1)).val = 12 * (y 1).val + (y 0).val := rfl
  exact canon_row_at P y _ (by rw [e]; omega) (by rw [e]; omega)

end Rows

/-! ## The two slots: four blocks in a slot, the slots in turn -/

section Slots

variable {e : EltTy} (P : Fin 48 → (⟨3, ![1, 128, 512]⟩ : Shape).Idx → Elt F e)

/-- Block `b` goes to rows `128 (b mod 4) …` of slot `(b / 4) mod 2`. -/
abbrev slotOff (b : Fin 48) : Fin (⟨3, ![2, 512, 512]⟩ : Shape).rank → ℕ := ![b.val / 4 % 2, 128 * (b.val % 4), 0]

theorem slotInb (b : Fin 48) (a : Fin (⟨3, ![2, 512, 512]⟩ : Shape).rank) :
    slotOff b a + (![1, 128, 512] : Fin 3 → ℕ) a ≤ (⟨3, ![2, 512, 512]⟩ : Shape).size a := by
  have := b.isLt
  match a with
  | ⟨0, _⟩ => show b.val / 4 % 2 + 1 ≤ 2; omega
  | ⟨1, _⟩ => show 128 * (b.val % 4) + 128 ≤ 512; omega
  | ⟨2, _⟩ => show 0 + 512 ≤ 512; omega

/-- The first `n` of the 48 stores into the slots. -/
abbrev slotPieces (n : ℕ) (hn : n ≤ 48) : List (View.Piece (Elt F) ⟨3, ![2, 512, 512]⟩ e) :=
  upTo (S := ⟨3, ![2, 512, 512]⟩) (size := ![1, 128, 512]) slotOff slotInb P n hn

/-- After the four blocks of chunk `k`, its slot holds them. -/
theorem canon_slot (k : Fin 12) (y : (⟨3, ![2, 512, 512]⟩ : Shape).Idx) (hy : (y 0).val = k.val % 2) (hn : 4 * k.val + 4 ≤ 48) :
    View.canon (slotPieces P (4 * k.val + 4) hn) y
      = P ⟨4 * k.val + (y 1).val / 128, by have : (y 1).val < 512 := (y 1).isLt; omega⟩
          (ix3 0 ⟨(y 1).val % 128, Nat.mod_lt _ (by decide)⟩ (y 2)) := by
  have h0 : (y 0).val < 2 := (y 0).isLt
  have h1 : (y 1).val < 512 := (y 1).isLt
  have h2 : (y 2).val < 512 := (y 2).isLt
  refine canon_upTo _ _ P ⟨4 * k.val + (y 1).val / 128, by omega⟩ y
    (ix3 0 ⟨(y 1).val % 128, Nat.mod_lt _ (by decide)⟩ (y 2)) (fun a => ?_) _ hn (by show 4 * k.val + (y 1).val / 128 < 4 * k.val + 4; omega) ?_
  · match a with
    | ⟨0, _⟩ => show (y 0).val = (4 * k.val + (y 1).val / 128) / 4 % 2 + 0; omega
    | ⟨1, _⟩ => show (y 1).val = 128 * ((4 * k.val + (y 1).val / 128) % 4) + (y 1).val % 128; omega
    | ⟨2, _⟩ => show (y 2).val = 0 + (y 2).val; omega
  · intro m hm hm' hall
    have hb := hall 1
    change 128 * (m.val % 4) ≤ (y 1).val ∧ (y 1).val < 128 * (m.val % 4) + 128 at hb
    change 4 * k.val + (y 1).val / 128 < m.val at hm
    omega

end Slots

/-! ## What the body's stores hold -/

/-- A row of scales stored as a 1 × 1 × c block. -/
theorem row_up {α : Type} (v : (Sh 1 c).Idx → α) (h : (Sh 1 c).ShapeCasts ⟨3, ![1, 1, c]⟩) (k : Fin c) :
    shapeCast ⟨3, ![1, 1, c]⟩ v h (ix3 0 0 k) = v (ix2 0 k) := by
  rw [show shapeCast ⟨3, ![1, 1, c]⟩ v h (ix3 0 0 k) = _ from shapeCast_addUnit_apply ![1, c] v h (ix3 0 0 k)]
  exact congrArg v (funext fun a => match a with | ⟨0, _⟩ => rfl | ⟨1, _⟩ => rfl)

/-- A block of 128 rows stored as a 1 × 128 × 512 block. -/
theorem block_up {α : Type} (v : (Sh 128 512).Idx → α) (h : (Sh 128 512).ShapeCasts ⟨3, ![1, 128, 512]⟩) (r : Fin 128) (k : Fin 512) :
    shapeCast ⟨3, ![1, 128, 512]⟩ v h (ix3 0 r k) = v (ix2 r k) := by
  rw [show shapeCast ⟨3, ![1, 128, 512]⟩ v h (ix3 0 r k) = _ from shapeCast_addUnit_apply ![128, 512] v h (ix3 0 r k)]
  exact congrArg v (funext fun a => match a with | ⟨0, _⟩ => rfl | ⟨1, _⟩ => rfl)

variable {sig : RefSig} {κ : Kind} {sp : Space} [∀ e, Nonempty (Elt F e)]

/-- The e4m3 codes of all blocks, stored block by block. -/
theorem codes_written (h : Cols c) (x : FVec F (Sh 6144 c) .bf16) (ld : Fin 48 → FVec F (Sh 128 c) .bf16)
    (hld : ∀ b, ld b = blk x b) (v : View sig κ sp (Sh c 6144) .fp8e4m3) (f : v.ty.Contents (Elt F))
    (L : List (View.Piece (Elt F) (Sh c 6144) .fp8e4m3)) (hL : L = colPieces (fun b => codes h e4m3 (ld b)) 48 le_rfl) :
    v.read (Elt F) (v.writes (Elt F) f L) = codesAll h e4m3 x := by
  subst hL
  obtain rfl : ld = blk x := funext hld
  rw [View.read_writes_eq_canon v f _ (col_cover _)]
  exact funext fun y => canon_col _ y

/-- The e5m2 codes of all blocks, stored block by block. -/
theorem codes_written' (h : Cols c) (x : FVec F (Sh 6144 c) .bf16) (ld : Fin 48 → FVec F (Sh 128 c) .bf16)
    (hld : ∀ b, ld b = blk x b) (v : View sig κ sp (Sh c 6144) .fp8e5m2) (f : v.ty.Contents (Elt F))
    (L : List (View.Piece (Elt F) (Sh c 6144) .fp8e5m2)) (hL : L = colPieces (fun b => codes h e5m2 (ld b)) 48 le_rfl) :
    v.read (Elt F) (v.writes (Elt F) f L) = codesAll h e5m2 x := by
  subst hL
  obtain rfl : ld = blk x := funext hld
  rw [View.read_writes_eq_canon v f _ (col_cover _)]
  exact funext fun y => canon_col _ y

/-- The dequantised values of all blocks, stored block by block. -/
theorem deq_written (h : Cols c) (f : Fmt) (x : FVec F (Sh 6144 c) .bf16) (ld : Fin 48 → FVec F (Sh 128 c) .bf16)
    (hld : ∀ b, ld b = blk x b) (hs : (Sh c 128).ShapeCasts (Sh c 128)) (v : View sig κ sp (Sh c 6144) .bf16) (g : v.ty.Contents (Elt F))
    (L : List (View.Piece (Elt F) (Sh c 6144) .bf16))
    (hL : L = colPieces (e := .bf16) (fun b => shapeCast (Sh c 128) (deqT h f (ld b)) hs) 48 le_rfl) :
    v.read (Elt F) (v.writes (Elt F) g L) = deqTAll h f x := by
  subst hL
  obtain rfl : ld = blk x := funext hld
  rw [View.read_writes_eq_canon v g _ (col_cover _)]
  refine funext fun y => (canon_col _ y).trans ?_
  rw [shapeCast_self]; rfl

/-- The scales of all blocks, stored block by block. -/
theorem scale_written (h : Cols c) (f : Fmt) (x : FVec F (Sh 6144 c) .bf16) (ld : Fin 48 → FVec F (Sh 128 c) .bf16)
    (hld : ∀ b, ld b = blk x b) (hs : (Sh 1 c).ShapeCasts ⟨3, ![1, 1, c]⟩) (v : View sig κ sp ⟨3, ![12, 4, c]⟩ .f32) (g : v.ty.Contents (Elt F))
    (L : List (View.Piece (Elt F) ⟨3, ![12, 4, c]⟩ .f32))
    (hL : L = rowPieces (e := .f32) (fun b => shapeCast ⟨3, ![1, 1, c]⟩ (scale h f (ld b)) hs) 48 le_rfl) :
    v.read (Elt F) (v.writes (Elt F) g L) = scaleAll h f x := by
  subst hL
  obtain rfl : ld = blk x := funext hld
  rw [View.read_writes_eq_canon v g _ (row_cover _)]
  refine funext fun y => (canon_row _ y).trans ?_
  exact row_up _ hs (y 2)

end Cert.Quant

end
-- ==== Proof.Grad.lean ====
/- The kernel's running sum: the twelve products of a chunk of the dequantised strip, read from its slot, and the same
   columns of the transposed `dy`; and what the loads of the body read. -/
module

public import proofs.«01_k».proof.Proof.Written

@[expose] public section

noncomputable section

namespace Cert.Quant

open Idealize.ShloMosaic Idealize.ShloMosaic.ValueIdx
open Cert.KernelIdeal Cert.KernelIdeal.Gen

variable {F : FTy → Type} [FloatOps F] {c : ℕ}
variable {sig : RefSig} {κ : Kind} {sp : Space} [∀ e, Nonempty (Elt F e)]

/-! ## Loads -/

theorem loadInb (b : Fin 48) (a : Fin (Sh 6144 c).rank) :
    (![128 * b.val, 0] : Fin 2 → ℕ) a + (![128, c] : Fin 2 → ℕ) a ≤ (Sh 6144 c).size a := by
  have := b.isLt
  match a with
  | ⟨0, _⟩ => show 128 * b.val + 128 ≤ 6144; omega
  | ⟨1, _⟩ => show 0 + c ≤ c; omega

/-- The load of rows `128 b …`. -/
abbrev blkLoad (v : View sig κ sp (Sh 6144 c) .bf16) (g : v.ty.Contents (Elt F)) (b : Fin 48) : FVec F (Sh 128 c) .bf16 :=
  View.readAt (Elt F) v (Rect.unit (s := Sh 6144 c) ![128 * b.val, 0] ![128, c] (loadInb b)).toLoadRect g

theorem blkLoad_eq (v : View sig κ sp (Sh 6144 c) .bf16) (g : v.ty.Contents (Elt F)) (x : FVec F (Sh 6144 c) .bf16)
    (h : v.read (Elt F) g = x) (b : Fin 48) : blkLoad v g b = blk x b := by
  subst h
  refine funext fun j => ?_
  show v.read (Elt F) g _ = v.read (Elt F) g _
  refine congrArg _ (funext fun a => Fin.ext ?_)
  match a with
  | ⟨0, _⟩ => show 128 * b.val + 1 * (j 0).val = 128 * b.val + (j 0).val; omega
  | ⟨1, _⟩ => show 0 + 1 * (j 1).val = (j 1).val; omega

/-- Columns `512 k …` of the transposed `dy`. -/
abbrev colsOf (gw : FVec F (Sh 640 6144) .bf16) (k : Fin 12) : FVec F (Sh 640 512) .bf16 :=
  fun i => gw (ix2 (i 0) ⟨512 * k.val + (i 1).val, by have := k.isLt; have := idx2_lt1 i; omega⟩)

theorem gInb (k : Fin 12) (a : Fin (Sh 640 6144).rank) :
    (![0, 512 * k.val] : Fin 2 → ℕ) a + (![640, 512] : Fin 2 → ℕ) a ≤ (Sh 640 6144).size a := by
  have := k.isLt
  match a with
  | ⟨0, _⟩ => show 0 + 640 ≤ 640; omega
  | ⟨1, _⟩ => show 512 * k.val + 512 ≤ 6144; omega

/-- The box of columns `512 k …`. -/
abbrev gBox (k : Fin 12) : LoadRect (Sh 640 6144) := (Rect.unit (s := Sh 640 6144) ![0, 512 * k.val] ![640, 512] (gInb k)).toLoadRect

theorem gBox_idx (k : Fin 12) (i : (Sh 640 512).Idx) :
    (gBox k).idx i = (ix2 (i 0) ⟨512 * k.val + (i 1).val, by have := k.isLt; have := idx2_lt1 i; omega⟩ : (Sh 640 6144).Idx) := by
  refine funext fun a => Fin.ext ?_
  match a with
  | ⟨0, _⟩ => show 0 + 1 * (i 0).val = (i 0).val; omega
  | ⟨1, _⟩ => show 512 * k.val + 1 * (i 1).val = 512 * k.val + (i 1).val; omega

/-- A load of those columns from an array that holds `gw`. -/
theorem gLoad_eq (v : View sig κ sp (Sh 640 6144) .bf16) (g : v.ty.Contents (Elt F)) (gw : FVec F (Sh 640 6144) .bf16)
    (h : v.read (Elt F) g = gw) (k : Fin 12) : View.readAt (Elt F) v (gBox k) g = colsOf gw k := by
  subst h
  exact funext fun i => congrArg (v.read (Elt F) g) (gBox_idx k i)

/-- A load of those columns from the array just stored block by block. -/
theorem gCov_eq (h : Cols 640) (f : Fmt) (x : FVec F (Sh 6144 640) .bf16) (ld : Fin 48 → FVec F (Sh 128 640) .bf16)
    (hld : ∀ b, ld b = blk x b) (hs : (Sh 640 128).ShapeCasts (Sh 640 128)) (v : View sig κ sp (Sh 640 6144) .bf16) (k : Fin 12) :
    v.readCov (colPieces (e := .bf16) (fun b => shapeCast (Sh 640 128) (deqT h f (ld b)) hs) 48 le_rfl) (gBox k)
      = colsOf (deqTAll h f x) k := by
  obtain rfl : ld = blk x := funext hld
  rw [View.readCov_eq_canon']
  refine funext fun i => (canon_col _ _).trans ?_
  rw [shapeCast_self, gBox_idx]; rfl

theorem sInb (k : Fin 12) (a : Fin (⟨3, ![2, 512, 512]⟩ : Shape).rank) :
    (![k.val % 2, 0, 0] : Fin 3 → ℕ) a + (![1, 512, 512] : Fin 3 → ℕ) a ≤ (⟨3, ![2, 512, 512]⟩ : Shape).size a := by
  match a with
  | ⟨0, _⟩ => show k.val % 2 + 1 ≤ 2; omega
  | ⟨1, _⟩ => show 0 + 512 ≤ 512; omega
  | ⟨2, _⟩ => show 0 + 512 ≤ 512; omega

/-- The box of the slot of chunk `k`. -/
abbrev sBox (k : Fin 12) : LoadRect (⟨3, ![2, 512, 512]⟩ : Shape) :=
  (Rect.unit (s := ⟨3, ![2, 512, 512]⟩) ![k.val % 2, 0, 0] ![1, 512, 512] (sInb k)).toLoadRect

/-- The slot's load, as a 512 × 512 chunk of the dequantised strip. -/
abbrev slotLoad (v : View sig κ sp ⟨3, ![2, 512, 512]⟩ .bf16) (ld : Fin 48 → FVec F (Sh 128 512) .bf16)
    (k : Fin 12) : Vec F ⟨3, ![1, 512, 512]⟩ .bf16 :=
  v.readCov (slotPieces (e := .bf16) (fun b => shapeCast ⟨3, ![1, 128, 512]⟩ (deq cols512 e4m3 (ld b))
    Cert.KernelIdeal.Gen.shapeCasts_S128x512_S1x128x512) (4 * k.val + 4) (by have := k.isLt; omega)) (sBox k)

theorem slotLoad_eq (x : FVec F (Sh 6144 512) .bf16) (ld : Fin 48 → FVec F (Sh 128 512) .bf16) (hld : ∀ b, ld b = blk x b)
    (v : View sig κ sp ⟨3, ![2, 512, 512]⟩ .bf16) (k : Fin 12) :
    shapeCast (Sh 512 512) (slotLoad v ld k) Cert.KernelIdeal.Gen.shapeCasts_S1x512x512_S512x512 = chunk cols512 e4m3 x k := by
  obtain rfl : ld = blk x := funext hld
  refine funext fun j => ?_
  have hj := idx2_lt0 j
  have e1 : ((sBox k).idx (Fin.cons (⟨0, Nat.one_pos⟩ : Fin 1) j : (⟨3, ![1, 512, 512]⟩ : Shape).Idx) 1 : ℕ) = (j 0).val := by
    show 0 + 1 * (j 0).val = (j 0).val; omega
  have e2 : ((sBox k).idx (Fin.cons (⟨0, Nat.one_pos⟩ : Fin 1) j : (⟨3, ![1, 512, 512]⟩ : Shape).Idx) 2 : ℕ) = (j 1).val := by
    show 0 + 1 * (j 1).val = (j 1).val; omega
  refine (shapeCast_dropUnit_apply ![512, 512] (slotLoad v (blk x) k) _ j).trans ?_
  refine (congrFun (View.readCov_eq_canon' v _ (sBox k)) _).trans ?_
  refine (canon_slot _ k _ (by show k.val % 2 + 1 * 0 = k.val % 2; omega) _).trans ?_
  refine (block_up _ _ _ _).trans ?_
  unfold chunk
  refine congr (congrArg (fun b => deq cols512 e4m3 (blk x b)) (Fin.ext ?_)) (congr (congrArg ix2 (Fin.ext ?_)) (Fin.ext ?_))
  · exact congrArg (fun t => 4 * k.val + t / 128) e1
  · exact congrArg (fun t => t % 128) e1
  · exact e2

/-! ## The running sum -/

/-- The sum of the first `n` products of the loads, in order, from zero. -/
def accOf (G : Fin 12 → FVec F (Sh 640 512) .bf16) (V : Fin 12 → Vec F ⟨3, ![1, 512, 512]⟩ .bf16) :
    (n : ℕ) → n ≤ 12 → FVec F (Sh 640 512) .f32
  | 0, _ => constant (Sh 640 512) .f32 0x00000000#32
  | n + 1, hn => addf (accOf G V n (Nat.le_of_succ_le hn))
      (matmul dot_S640x512_S512x512_S640x512_1_0_0_1_n_n none (G ⟨n, hn⟩)
        (shapeCast (Sh 512 512) (V ⟨n, hn⟩) Cert.KernelIdeal.Gen.shapeCasts_S1x512x512_S512x512 : FVec F (Sh 512 512) .bf16)
        (constant (Sh 640 512) .f32 0x00000000#32))

theorem accOf_eq (gw : FVec F (Sh 640 6144) .bf16) (x : FVec F (Sh 6144 512) .bf16)
    (G : Fin 12 → FVec F (Sh 640 512) .bf16) (V : Fin 12 → Vec F ⟨3, ![1, 512, 512]⟩ .bf16) (hG : ∀ k, G k = colsOf gw k)
    (hV : ∀ k, shapeCast (Sh 512 512) (V k) Cert.KernelIdeal.Gen.shapeCasts_S1x512x512_S512x512 = chunk cols512 e4m3 x k) :
    ∀ (n : ℕ) (hn : n ≤ 12), accOf G V n hn = acc gw x n hn
  | 0, _ => rfl
  | n + 1, hn => by
    rw [accOf, acc, accOf_eq gw x G V hG hV n (Nat.le_of_succ_le hn), hG, hV]; rfl

/-- An array stored whole holds what was stored. -/
theorem whole_written {S : Shape} {e : EltTy} {off : Fin S.rank → ℕ} (h0 : off = fun _ => 0) (inb : ∀ a, off a + S.size a ≤ S.size a)
    (w : S.Idx → Elt F e) (v : View sig κ sp S e) (f : v.ty.Contents (Elt F)) :
    v.read (Elt F) (v.writes (Elt F) f [(⟨Rect.unit off S.size inb, w⟩ : View.Piece (Elt F) S e)]) = w := by
  rw [View.read_writes_eq_canon v f _ (fun y => ⟨⟨Rect.unit off S.size inb, w⟩, List.mem_cons_self, View.mem_set_unit_zero h0 inb y⟩)]
  exact View.canon_cons_unit_zero h0 inb w []

/-- The strip of the gradient, stored whole. -/
theorem grad_written (gw : FVec F (Sh 640 6144) .bf16) (x : FVec F (Sh 6144 512) .bf16)
    (G : Fin 12 → FVec F (Sh 640 512) .bf16) (V : Fin 12 → Vec F ⟨3, ![1, 512, 512]⟩ .bf16) (hG : ∀ k, G k = colsOf gw k)
    (hV : ∀ k, shapeCast (Sh 512 512) (V k) Cert.KernelIdeal.Gen.shapeCasts_S1x512x512_S512x512 = chunk cols512 e4m3 x k)
    (v : View sig κ sp (Sh 512 640) .f32) (f : v.ty.Contents (Elt F)) (inb : ∀ a, (![0, 0] : Fin 2 → ℕ) a + (Sh 512 640).size a ≤ (Sh 512 640).size a)
    (L : List (View.Piece (Elt F) (Sh 512 640) .f32))
    (hL : L = [⟨Rect.unit (s := Sh 512 640) ![0, 0] (Sh 512 640).size inb,
      transpose (Sh 512 640) [1, 0] (accOf G V 12 le_rfl) Cert.KernelIdeal.Gen.transposes_S640x512_p1_0_S512x640⟩]) :
    v.read (Elt F) (v.writes (Elt F) f L) = gradStrip gw x := by
  subst hL
  have h0 : (![0, 0] : Fin 2 → ℕ) = fun _ => 0 := funext fun a => by match a with | ⟨0, _⟩ => rfl | ⟨1, _⟩ => rfl
  rw [accOf_eq gw x G V hG hV]
  exact whole_written h0 inb _ v f

end Cert.Quant

end
-- ==== Proof.RunB.lean ====
/- A later grid point: the body works on its strip of `x` alone. What each buffer holds afterwards, from what the two
   inputs and the buffers the first point filled hold. -/
module

public import proofs.«01_k».proof.Proof.BodyKit
public import proofs.«01_k».proof.Proof.Grad

@[expose] public section

set_option maxRecDepth 16384

noncomputable section

namespace Cert.KernelIdeal.Body

open Cert.KernelIdeal.Gen Cert.Quant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 2868000 in
/-- The body at a later grid point. -/
theorem run_rest (c : Dev nD) (i : grid0.Coords) (arg1 : Memref sig .tc .vmem S6144x512 .bf16) (harg1 : arg1.IsWhole) (arg2 : Memref sig .tc .vmem S6144x640 .bf16) (harg2 : arg2.IsWhole) (arg3 : Memref sig .tc .vmem S512x640 .f32) (harg3 : arg3.IsWhole) (arg4 : Memref sig .tc .vmem S512x6144 .fp8e4m3) (harg4 : arg4.IsWhole) (arg5 : Memref sig .tc .vmem S12x4x512 .f32) (harg5 : arg5.IsWhole) (arg6 : Memref sig .tc .vmem S640x6144 .fp8e5m2) (harg6 : arg6.IsWhole) (arg7 : Memref sig .tc .vmem S12x4x640 .f32) (harg7 : arg7.IsWhole) (arg8 : Memref sig .tc .vmem S640x6144 .bf16) (harg8 : arg8.IsWhole) (arg9 : Memref sig .tc .vmem S2x512x512 .bf16) (harg9 : arg9.IsWhole) (hc0 : ¬cond0_0 i)
    (x0 : Vec F S6144x512 .bf16) (x1 : Vec F S6144x640 .bf16) (y5 : Vec F S640x6144 .fp8e5m2) (y6 : Vec F S12x4x640 .f32) (gw : Vec F S640x6144 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare y5 ∗ owns (c : Thread nD τ) arg7 fullShare y6 ∗ owns (c : Thread nD τ) arg8 fullShare gw ∗ (∃ d, owns (c : Thread nD τ) arg9 fullShare d)
            ∗ (iprop(owns (c : Thread nD τ) arg1 fullShare x0 ∗ owns (c : Thread nD τ) arg2 fullShare x1 ∗ owns (c : Thread nD τ) arg3 fullShare (gradStrip gw x0) ∗ owns (c : Thread nD τ) arg4 fullShare (codesAll cols512 e4m3 x0) ∗ owns (c : Thread nD τ) arg5 fullShare (scaleAll cols512 e4m3 x0) ∗ owns (c : Thread nD τ) arg6 fullShare y5 ∗ owns (c : Thread nD τ) arg7 fullShare y6 ∗ owns (c : Thread nD τ) arg8 fullShare gw ∗ (∃ d, owns (c : Thread nD τ) arg9 fullShare d)) -∗ K ⟨⟩))
          ⊢ wp frame (wpE (defs₀ (F := F)) Variants.none c none) E (cc0_wgrad_quant i arg1 harg1 arg2 harg2 arg3 harg3 arg4 harg4 arg5 harg5 arg6 harg6 arg7 harg7 arg8 harg8 arg9 harg9) K := by
    intro E K
    simp only [cc0_wgrad_quant_eq_skeleton]; unfold cc0_wgrad_quant_skel
    simp only [k0_part146_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, ⟨%f7, %hf7, HS0⟩, ⟨%ds1, %fs1, -, HS1⟩, Hk⟩
    obtain rfl := harg1.eq_unread hf0; obtain rfl := harg2.eq_unread hf1; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact grad_written gw x0 (fun k => View.readAt (Elt F) arg8.view (gBox k) (harg8.unread gw))
        (slotLoad arg9.view (blkLoad arg1.view (harg1.unread x0))) (gLoad_eq _ _ _ (harg8.read_unread _))
        (slotLoad_eq x0 _ (blkLoad_eq _ _ _ (harg1.read_unread _)) _) _ _ (by decide) _ rfl
    isplitl [H3]
    · iexists _; isplitr; swap; · iexact H3
      ipureintro; exact codes_written cols512 x0 (blkLoad arg1.view (harg1.unread x0)) (blkLoad_eq _ _ _ (harg1.read_unread _)) _ _ _ rfl
    isplitl [H4]
    · iexists _; isplitr; swap; · iexact H4
      ipureintro; exact scale_written cols512 e4m3 x0 (blkLoad arg1.view (harg1.unread x0)) (blkLoad_eq _ _ _ (harg1.read_unread _))
        Cert.KernelIdeal.Gen.shapeCasts_S1x512_S1x1x512 _ _ _ rfl
    isplitl [H5]
    · iexists _; isplitr; · ipureintro; exact hf5
      iexact H5
    isplitl [H6]
    · iexists _; isplitr; · ipureintro; exact hf6
      iexact H6
    isplitl [HS0]
    · iexists _; isplitr; · ipureintro; exact harg8.read_unread _
      iexact HS0
    iexists _, _; isplitr; swap; · iexact HS1
    ipureintro; rfl

end Cert.KernelIdeal.Body

end
-- ==== Proof.RunA.lean ====
/- The first grid point: the body quantises and transposes `dy` and then works on the first strip of `x`. What each
   buffer holds afterwards, from what the two inputs hold. -/
module

public import proofs.«01_k».proof.Proof.RunB

@[expose] public section

set_option maxRecDepth 16384

noncomputable section

namespace Cert.KernelIdeal.Body

open Cert.KernelIdeal.Gen Cert.Quant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 5588000 in
/-- The body at the first grid point. -/
theorem run_first (c : Dev nD) (i : grid0.Coords) (arg1 : Memref sig .tc .vmem S6144x512 .bf16) (harg1 : arg1.IsWhole) (arg2 : Memref sig .tc .vmem S6144x640 .bf16) (harg2 : arg2.IsWhole) (arg3 : Memref sig .tc .vmem S512x640 .f32) (harg3 : arg3.IsWhole) (arg4 : Memref sig .tc .vmem S512x6144 .fp8e4m3) (harg4 : arg4.IsWhole) (arg5 : Memref sig .tc .vmem S12x4x512 .f32) (harg5 : arg5.IsWhole) (arg6 : Memref sig .tc .vmem S640x6144 .fp8e5m2) (harg6 : arg6.IsWhole) (arg7 : Memref sig .tc .vmem S12x4x640 .f32) (harg7 : arg7.IsWhole) (arg8 : Memref sig .tc .vmem S640x6144 .bf16) (harg8 : arg8.IsWhole) (arg9 : Memref sig .tc .vmem S2x512x512 .bf16) (harg9 : arg9.IsWhole) (hc0 : cond0_0 i)
    (x0 : Vec F S6144x512 .bf16) (x1 : Vec F S6144x640 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare (gradStrip (deqTAll cols640 e5m2 x1) x0) ∗ owns (c : Thread nD τ) arg4 fullShare (codesAll cols512 e4m3 x0) ∗ owns (c : Thread nD τ) arg5 fullShare (scaleAll cols512 e4m3 x0) ∗ owns (c : Thread nD τ) arg6 fullShare (codesAll cols640 e5m2 x1) ∗ owns (c : Thread nD τ) arg7 fullShare (scaleAll cols640 e5m2 x1) ∗ owns (c : Thread nD τ) arg8 fullShare (deqTAll cols640 e5m2 x1) ∗ (∃ d, owns (c : Thread nD τ) arg9 fullShare d)) -∗ K ⟨⟩))
          ⊢ wp frame (wpE (defs₀ (F := F)) Variants.none c none) E (cc0_wgrad_quant i arg1 harg1 arg2 harg2 arg3 harg3 arg4 harg4 arg5 harg5 arg6 harg6 arg7 harg7 arg8 harg8 arg9 harg9) K := by
    intro E K
    simp only [cc0_wgrad_quant_eq_skeleton]; unfold cc0_wgrad_quant_skel
    simp only [k0_part146_eq_skeleton, k0_part73_eq_skeleton, k0_part72_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      exact grad_written (deqTAll cols640 e5m2 x1) x0
        (fun k => arg8.view.readCov (colPieces (e := .bf16) (fun b => shapeCast (Sh 640 128) (deqT cols640 e5m2 (blkLoad arg2.view (harg2.unread x1) b))
          Cert.KernelIdeal.Gen.shapeCasts_S640x128_S640x128) 48 le_rfl) (gBox k))
        (slotLoad arg9.view (blkLoad arg1.view (harg1.unread x0))) (gCov_eq cols640 e5m2 x1 _ (blkLoad_eq _ _ _ (harg2.read_unread _)) _ _)
        (slotLoad_eq x0 _ (blkLoad_eq _ _ _ (harg1.read_unread _)) _) _ _ (by decide) _ rfl
    isplitl [H3]
    · iexists _; isplitr; swap; · iexact H3
      ipureintro
      exact codes_written cols512 x0 (blkLoad arg1.view (harg1.unread x0)) (blkLoad_eq _ _ _ (harg1.read_unread _)) _ _ _ rfl
    isplitl [H4]
    · iexists _; isplitr; swap; · iexact H4
      ipureintro
      exact scale_written cols512 e4m3 x0 (blkLoad arg1.view (harg1.unread x0)) (blkLoad_eq _ _ _ (harg1.read_unread _))
        Cert.KernelIdeal.Gen.shapeCasts_S1x512_S1x1x512 _ _ _ rfl
    isplitl [H5]
    · iexists _; isplitr; swap; · iexact H5
      ipureintro
      exact codes_written' cols640 x1 (blkLoad arg2.view (harg2.unread x1)) (blkLoad_eq _ _ _ (harg2.read_unread _)) _ _ _ rfl
    isplitl [H6]
    · iexists _; isplitr; swap; · iexact H6
      ipureintro
      exact scale_written cols640 e5m2 x1 (blkLoad arg2.view (harg2.unread x1)) (blkLoad_eq _ _ _ (harg2.read_unread _))
        Cert.KernelIdeal.Gen.shapeCasts_S1x640_S1x1x640 _ _ _ rfl
    isplitl [HS0]
    · iexists _; isplitr; swap; · iexact HS0
      ipureintro
      exact deq_written cols640 e5m2 x1 (blkLoad arg2.view (harg2.unread x1)) (blkLoad_eq _ _ _ (harg2.read_unread _))
        Cert.KernelIdeal.Gen.shapeCasts_S640x128_S640x128 _ _ _ rfl
    iexists _, _; isplitr; swap; · iexact HS1
    ipureintro; rfl

end Cert.KernelIdeal.Body

end
-- ==== Proof.IdealRun.lean ====
/- The launch, with every buffer's contents named: at each grid point the three moving outputs are functions of the
   point's strip of `x` and of `dy`; the two outputs of `dy` and the transposed values in scratch are left by the first
   point and stay. From it the frame of the program, and the contents of the five output arrays. -/
module

public import proofs.«01_k».proof.Proof.RunA
public import Idealize.ShloMosaic.Lib.Claim
public import Idealize.ShloMosaic.Lib.Pipeline.TableIdle

@[expose] public section

set_option maxRecDepth 16384

noncomputable section

namespace Cert.KernelIdeal.Body

open Cert.KernelIdeal.Gen Cert.Quant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first grid point. -/
abbrev t0 : Fin cfg0.N := ⟨0, lt_of_lt_of_eq (by decide : 0 < 10) (show 10 = cfg0.N from N_0.symm)⟩

/-- The strip of `x` at point `t`. -/
abbrev strip (c : Dev nD) (t : Fin cfg0.N) : Vec F S6144x512 .bf16 := iblk m c 0 t
/-- The whole of `dy`. -/
abbrev dyAll (c : Dev nD) : Vec F S6144x640 .bf16 := iblk m c 1 t0

/-- The one block of `dy` is the same at every point. -/
theorem dy_const (c : Dev nD) (t : Fin cfg0.N) : (iblk m c 1 t : Vec F S6144x640 .bf16) = dyAll m c := rfl

/-- The launch's invariant: before the first point the scratch holds anything; afterwards the first scratch buffer holds
    the transposed dequantised `dy`. -/
def inv (c : Dev nD) (n : ℕ) : sProp 𝕄 :=
  match n with
  | 0 => Pipeline.ΦA spec0 c
  | _ + 1 => iprop(iprop(owns (c : Thread nD τ) scM0_0 fullShare (deqTAll cols640 e5m2 (dyAll m c)) ∗ (∃ d, owns (c : Thread nD τ) scM0_1 fullShare d)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => gradStrip (deqTAll cols640 e5m2 (dyAll m c)) (strip m c t)
    | ⟨3, _⟩ => codesAll cols512 e4m3 (strip m c t)
    | ⟨4, _⟩ => scaleAll cols512 e4m3 (strip m c t)
    | ⟨5, _⟩ => codesAll cols640 e5m2 (dyAll m c)
    | ⟨6, _⟩ => scaleAll cols640 e5m2 (dyAll m c)
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = gradStrip (deqTAll cols640 e5m2 (dyAll m c)) (strip m c t) := by dsimp only [dats]
theorem after0_3 (c : Dev nD) (t : Fin cfg0.N) : (dats m 0 c).after 3 t = codesAll cols512 e4m3 (strip m c t) := by dsimp only [dats]
theorem after0_4 (c : Dev nD) (t : Fin cfg0.N) : (dats m 0 c).after 4 t = scaleAll cols512 e4m3 (strip m c t) := by dsimp only [dats]
theorem after0_5 (c : Dev nD) (t : Fin cfg0.N) : (dats m 0 c).after 5 t = codesAll cols640 e5m2 (dyAll m c) := by dsimp only [dats]
theorem after0_6 (c : Dev nD) (t : Fin cfg0.N) : (dats m 0 c).after 6 t = scaleAll cols640 e5m2 (dyAll m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The two outputs of `dy` after the first point -/

theorem liveAt0_2 (t : Fin cfg0.N) : cfg0.idle 2 (grid0.coords t) = false := rfl
theorem liveAt0_3 (t : Fin cfg0.N) : cfg0.idle 3 (grid0.coords t) = false := rfl
theorem liveAt0_4 (t : Fin cfg0.N) : cfg0.idle 4 (grid0.coords t) = false := rfl

theorem point_lt (t : Fin cfg0.N) : t.val < 10 := lt_of_lt_of_eq t.isLt (show cfg0.N = 10 from N_0)

/-- They are stored at the first point and at no other. -/
theorem idle0_5 (t : Fin cfg0.N) : cfg0.idle 5 (grid0.coords t) = !decide (t.val = 0) := by
  have h := hcond0_0 t
  have ht := point_lt t
  show (!(k0_cond1 (grid0.coords t) == 1#1)) = _
  rw [Nat.mod_eq_of_lt ht] at h
  by_cases h0 : t.val = 0
  · rw [show k0_cond1 (grid0.coords t) = 1#1 from h.mpr h0]; simp [h0]
  · rw [beq_eq_false_iff_ne.mpr fun e => h0 (h.mp e)]; simp [h0]

theorem idle0_6 (t : Fin cfg0.N) : cfg0.idle 6 (grid0.coords t) = !decide (t.val = 0) := idle0_5 t

theorem flush_5 (t : Fin cfg0.N) : (cfg0.win 5).flush t = decide (t.val = 9) := by
  have ht := point_lt t
  rw [Bool.eq_iff_iff, flush0_5, Nat.mod_eq_of_lt ht, decide_eq_true_iff]
theorem flush_6 (t : Fin cfg0.N) : (cfg0.win 6).flush t = decide (t.val = 9) := by
  have ht := point_lt t
  rw [Bool.eq_iff_iff, flush0_6, Nat.mod_eq_of_lt ht, decide_eq_true_iff]

theorem fresh_step (t : ℕ) (ht : t < 10) :
    (decide (t + 1 = 0) || decide (t + 1 = 10)) = (decide (t = 9) || (!decide (t = 0) && (decide (t = 0) || decide (t = 10)))) := by
  interval_cases t <;> rfl

theorem fresh0_5 (t : Fin cfg0.N) (ht : t.val ≠ 0) : cfg0.fresh 5 t.val = false := by
  rw [cfg0.fresh_tab 5 (fun n => decide (n = 0) || decide (n = 10)) rfl
    (fun t => by rw [flush_5]; erw [idle0_5 t]; exact fresh_step t.val (point_lt t)) t.val (Nat.le_of_lt t.isLt)]
  have := point_lt t
  simp [ht]; omega
theorem fresh0_6 (t : Fin cfg0.N) (ht : t.val ≠ 0) : cfg0.fresh 6 t.val = false := by
  rw [cfg0.fresh_tab 6 (fun n => decide (n = 0) || decide (n = 10)) rfl
    (fun t => by rw [flush_6]; erw [idle0_6 t]; exact fresh_step t.val (point_lt t)) t.val (Nat.le_of_lt t.isLt)]
  have := point_lt t
  simp [ht]; omega

theorem before0_5 (c : Dev nD) (t : Fin cfg0.N) (ht : t.val ≠ 0) (d) :
    (dats m 0 c).before 5 t d = codesAll cols640 e5m2 (dyAll m c) := by
  rw [(dats m 0 c).before_out_traj 5 rfl (fun _ _ => rfl) (fun t _ _ _ => by rw [after0_5, after0_5]) t.val t rfl d,
    fresh0_5 t ht, if_neg Bool.false_ne_true, after0_5]
theorem before0_6 (c : Dev nD) (t : Fin cfg0.N) (ht : t.val ≠ 0) (d) :
    (dats m 0 c).before 6 t d = scaleAll cols640 e5m2 (dyAll m c) := by
  rw [(dats m 0 c).before_out_traj 6 rfl (fun _ _ => rfl) (fun t _ _ _ => by rw [after0_6, after0_6]) t.val t rfl d,
    fresh0_6 t ht, if_neg Bool.false_ne_true, after0_6]

/-- A buffer that holds the codes of `dy` is what the body is to leave, at every point. -/
theorem leaves0_5 (c : Dev nD) (t : Fin cfg0.N) :
    (owns (c : Thread nD τ) (ms0_5 t) fullShare (codesAll cols640 e5m2 (dyAll m c)) : sProp 𝕄) ⊢ (dats m 0 c).leavesExact 5 t := by
  by_cases h0 : t.val = 0
  · rw [show (dats m 0 c).leavesExact 5 t = owns (c : Thread nD τ) (ms0_5 t) fullShare ((dats m 0 c).after 5 t) from by
      unfold Dat.leavesExact; rw [show cfg0.idle 5 (cfg0.grid.coords t) = false from (idle0_5 t).trans (by simp [h0])], after0_5]
  · by_cases h9 : t.val = 9
    · rw [show (dats m 0 c).leavesExact 5 t = owns (c : Thread nD τ) (ms0_5 t) fullShare ((dats m 0 c).after 5 t) from by
        unfold Dat.leavesExact; rw [show cfg0.idle 5 (cfg0.grid.coords t) = true from (idle0_5 t).trans (by simp [h0]),
          show (cfg0.win 5).flush t = true from (flush_5 t).trans (by simp [h9])], after0_5]
    · rw [(dats m 0 c).leavesExact_idle 5 t ((idle0_5 t).trans (by simp [h0])) ((flush_5 t).trans (by simp [h9]))]
      simp only [before0_5 m c t h0]
      iintro H
      iexists (codesAll cols640 e5m2 (dyAll m c))
      iexact H

theorem leaves0_6 (c : Dev nD) (t : Fin cfg0.N) :
    (owns (c : Thread nD τ) (ms0_6 t) fullShare (scaleAll cols640 e5m2 (dyAll m c)) : sProp 𝕄) ⊢ (dats m 0 c).leavesExact 6 t := by
  by_cases h0 : t.val = 0
  · rw [show (dats m 0 c).leavesExact 6 t = owns (c : Thread nD τ) (ms0_6 t) fullShare ((dats m 0 c).after 6 t) from by
      unfold Dat.leavesExact; rw [show cfg0.idle 6 (cfg0.grid.coords t) = false from (idle0_6 t).trans (by simp [h0])], after0_6]
  · by_cases h9 : t.val = 9
    · rw [show (dats m 0 c).leavesExact 6 t = owns (c : Thread nD τ) (ms0_6 t) fullShare ((dats m 0 c).after 6 t) from by
        unfold Dat.leavesExact; rw [show cfg0.idle 6 (cfg0.grid.coords t) = true from (idle0_6 t).trans (by simp [h0]),
          show (cfg0.win 6).flush t = true from (flush_6 t).trans (by simp [h9])], after0_6]
    · rw [(dats m 0 c).leavesExact_idle 6 t ((idle0_6 t).trans (by simp [h0])) ((flush_6 t).trans (by simp [h9]))]
      simp only [before0_6 m c t h0]
      iintro H
      iexists (scaleAll cols640 e5m2 (dyAll m c))
      iexact H

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point: the first (`run_first`) or a later one (`run_rest`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = iprop(iprop(owns (c : Thread nD τ) scM0_0 fullShare (deqTAll cols640 e5m2 (dyAll m c)) ∗ (∃ d, owns (c : Thread nD τ) scM0_1 fullShare d)) ∗ (∃ r, prngReg c r)) from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  have hN : t.val < 10 := point_lt t
  by_cases h0 : t.val = 0
  · rw [show (dats m 0 c).Φ t.castSucc = Pipeline.ΦA spec0 c from by
      show inv m c t.val = _; rw [h0]; rfl, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((run_first c (grid0.coords t) _ _ _ _ _ _ _ _ _ _ _ _ _ _ _ _ _ _ ((hcond0_0 t).mpr (by omega)) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c t); iexact H5
    iapply (leaves0_6 m c t); iexact H6
  · rw [show (dats m 0 c).Φ t.castSucc = iprop(iprop(owns (c : Thread nD τ) scM0_0 fullShare (deqTAll cols640 e5m2 (dyAll m c)) ∗ (∃ d, owns (c : Thread nD τ) scM0_1 fullShare d)) ∗ (∃ r, prngReg c r)) from by
      show inv m c t.val = _
      obtain ⟨n, hn⟩ := Nat.exists_eq_succ_of_ne_zero h0
      rw [hn]; rfl]
    simp only [before0_5 m c t h0, before0_6 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((run_rest c (grid0.coords t) _ _ _ _ _ _ _ _ _ _ _ _ _ _ _ _ _ _ (fun h => h0 (by have := (hcond0_0 t).mp h; omega)) (iblk m c 0 t) (iblk m c 1 t)
      (codesAll cols640 e5m2 (dyAll m c)) (scaleAll cols640 e5m2 (dyAll m c)) (deqTAll cols640 e5m2 (dyAll m c))) Set.univ _)
    isplitl [H0]; · iexact H0
    isplitl [H1]; · iexact H1
    isplitl [H2]; · iexists _; iexact H2
    isplitl [H3]; · iexists _; iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c t); iexact H5
    iapply (leaves0_6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- After the last point the scratch may hold anything. -/
theorem inv_out (c : Dev nD) : (dats m 0 c).Φ (Fin.last cfg0.N) ⊢ (Pipeline.ΦA spec0 c : sProp 𝕄) := by
  rw [show (dats m 0 c).Φ (Fin.last cfg0.N) = iprop(iprop(owns (c : Thread nD τ) scM0_0 fullShare (deqTAll cols640 e5m2 (dyAll m c)) ∗ (∃ d, owns (c : Thread nD τ) scM0_1 fullShare d)) ∗ (∃ r, prngReg c r)) from by
    show inv m c cfg0.N = _
    rw [show cfg0.N = 9 + 1 from N_0]; rfl, PhiA0_eq]
  iintro ⟨⟨HS0, HS1⟩, Hg⟩
  isplitl [HS0 HS1]
  · isplitl [HS0]
    · iexists _; iexact HS0
    iexact HS1
  iexact Hg

set_option backward.isDefEq.respectTransparency.types false in
set_option maxHeartbeats 800000 in
/-- The launch: every array ends at the proof data's account of it, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := inv_out m)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) ((θ_run defs _ _).mono (fun _ h => h.1) (run_main_quiescent m ρ))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Body

end
-- ==== Proof.KernelValue.lean ====
/- The kernel's run, read: its five result arrays as functions of the two argument arrays. -/
module

public import proofs.«01_k».proof.Proof.IdealRun
public import Idealize.ShloMosaic.Lib.Pipeline.ValueKit

@[expose] public section

set_option maxRecDepth 16384

noncomputable section

namespace Cert.Quant

open Idealize.ShloMosaic
open Idealize.ShloMosaic.ValueIdx (idx2_lt0 idx2_lt1)

variable {F : FTy → Type} [FloatOps F]

/-- Columns `512 s …` of an array of 5120 columns. -/
def stripAt (x : FVec F (Sh 6144 5120) .bf16) (s : Fin 10) : FVec F (Sh 6144 512) .bf16 :=
  fun j => x (ValueIdx.ix2 (j 0) ⟨512 * s.val + (j 1).val, by have := s.isLt; have := idx2_lt1 j; omega⟩)

/-- The strip a column is in, … -/
abbrev stripOf (d : Fin 5120) : Fin 10 := ⟨d.val / 512, by have := d.isLt; omega⟩
/-- … and its place in the strip. -/
abbrev colOf (d : Fin 5120) : Fin 512 := ⟨d.val % 512, Nat.mod_lt _ (by decide)⟩

/-- The gradient, strip by strip. -/
def gradAll (y : FVec F (Sh 6144 640) .bf16) (x : FVec F (Sh 6144 5120) .bf16) : FVec F (Sh 5120 640) .f32 :=
  fun i => gradStrip (deqTAll cols640 e5m2 y) (stripAt x (stripOf (i 0))) (ValueIdx.ix2 (colOf (i 0)) (i 1))

/-- The codes of `x`, strip by strip. -/
def xCodes (x : FVec F (Sh 6144 5120) .bf16) : FVec F (Sh 5120 6144) .fp8e4m3 :=
  fun i => codesAll cols512 e4m3 (stripAt x (stripOf (i 0))) (ValueIdx.ix2 (colOf (i 0)) (i 1))

/-- The scales of `x`, strip by strip. -/
def xScales (x : FVec F (Sh 6144 5120) .bf16) : FVec F ⟨3, ![12, 4, 5120]⟩ .f32 :=
  fun i => scaleAll cols512 e4m3 (stripAt x (stripOf (i 2))) (ValueIdx.ix3 (i 0) (i 1) (colOf (i 2)))

theorem stripOf_at {d : Fin 5120} {s : Fin 10} {k : Fin 512} (h : d.val = s.val * 512 + k.val) : stripOf d = s ∧ colOf d = k := by
  have := k.isLt
  constructor <;> apply Fin.ext <;> simp only [stripOf, colOf] <;> omega

/-- A result at an element of strip `s` is what strip `s` leaves there. -/
theorem gradAll_at (y : FVec F (Sh 6144 640) .bf16) (x : FVec F (Sh 6144 5120) .bf16) (s : Fin 10) (j : (Sh 512 640).Idx) (i : (Sh 5120 640).Idx)
    (h0 : (i 0).val = s.val * 512 + (j 0).val) (h1 : (i 1).val = (j 1).val) :
    gradStrip (deqTAll cols640 e5m2 y) (stripAt x s) j = gradAll y x i := by
  obtain ⟨e, e'⟩ := stripOf_at h0
  unfold gradAll
  rw [e, e', show (i 1 : Fin 640) = j 1 from Fin.ext h1]
  exact congrArg _ (ValueIdx.eq_ix2 j)
theorem xCodes_at (x : FVec F (Sh 6144 5120) .bf16) (s : Fin 10) (j : (Sh 512 6144).Idx) (i : (Sh 5120 6144).Idx)
    (h0 : (i 0).val = s.val * 512 + (j 0).val) (h1 : (i 1).val = (j 1).val) :
    codesAll cols512 e4m3 (stripAt x s) j = xCodes x i := by
  obtain ⟨e, e'⟩ := stripOf_at h0
  unfold xCodes
  rw [e, e', show (i 1 : Fin 6144) = j 1 from Fin.ext h1]
  exact congrArg _ (ValueIdx.eq_ix2 j)
theorem xScales_at (x : FVec F (Sh 6144 5120) .bf16) (s : Fin 10) (j : (⟨3, ![12, 4, 512]⟩ : Shape).Idx) (i : (⟨3, ![12, 4, 5120]⟩ : Shape).Idx)
    (h0 : (i 0).val = (j 0).val) (h1 : (i 1).val = (j 1).val) (h2 : (i 2).val = s.val * 512 + (j 2).val) :
    scaleAll cols512 e4m3 (stripAt x s) j = xScales x i := by
  obtain ⟨e, e'⟩ := stripOf_at h2
  unfold xScales
  rw [e, e', show (i 0 : Fin 12) = j 0 from Fin.ext h0, show (i 1 : Fin 4) = j 1 from Fin.ext h1]
  exact congrArg _ (ValueIdx.eq_ix3 j)

end Cert.Quant

namespace Cert.KernelIdeal.Body

open Cert.KernelIdeal.Gen Cert.Quant
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The two arguments, their rows in one list. -/
abbrev X2 (c : Dev nD) : FVec F S6144x5120 .bf16 :=
  shapeCast S6144x5120 (m ((c : Thread nD τ).loc main_arg0) : FVec F S4x1536x5120 .bf16) shapeCasts_S4x1536x5120_S6144x5120
abbrev DY2 (c : Dev nD) : FVec F S6144x640 .bf16 :=
  shapeCast S6144x640 (m ((c : Thread nD τ).loc main_arg1) : FVec F S4x1536x640 .bf16) shapeCasts_S4x1536x640_S6144x640

theorem V_v0 (c : Dev nD) : (V m c main_v0 : FVec F S6144x5120 .bf16) = X2 m c := by
  show StableHlo.after [_, _] _ _ = _
  rw [StableHlo.after_cons, StableHlo.after_cons, StableHlo.after_nil,
    StableHlo.reshape_result_ne (h := (by decide : main_v0 ≠ main_v1)), StableHlo.reshape_result]
  rfl
theorem V_v1 (c : Dev nD) : (V m c main_v1 : FVec F S6144x640 .bf16) = DY2 m c := by
  show StableHlo.after [_, _] _ _ = _
  rw [StableHlo.after_cons, StableHlo.after_cons, StableHlo.after_nil, StableHlo.reshape_result,
    StableHlo.reshape_result_ne (h := (by decide : main_arg1 ≠ main_v0))]
  rfl

theorem index_0 : ∀ t : Fin cfg0.N, win0_0.index t = ![0, t.val] := (by decide +kernel : ∀ t : Fin grid0.N, win0_0.index t = ![0, t.val])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])
theorem index_3 : ∀ t : Fin cfg0.N, win0_3.index t = ![t.val, 0] := (by decide +kernel : ∀ t : Fin grid0.N, win0_3.index t = ![t.val, 0])
theorem index_4 : ∀ t : Fin cfg0.N, win0_4.index t = ![0, 0, t.val] := (by decide +kernel : ∀ t : Fin grid0.N, win0_4.index t = ![0, 0, t.val])
theorem index_5 : ∀ t : Fin cfg0.N, win0_5.index t = ![0, 0] := (by decide +kernel : ∀ t : Fin grid0.N, win0_5.index t = ![0, 0])
theorem index_6 : ∀ t : Fin cfg0.N, win0_6.index t = ![0, 0, 0] := (by decide +kernel : ∀ t : Fin grid0.N, win0_6.index t = ![0, 0, 0])

/-- A grid point as a strip's number. -/
abbrev pt (t : Fin cfg0.N) : Fin 10 := ⟨t.val, point_lt t⟩

theorem strip_eq (c : Dev nD) (t : Fin cfg0.N) : strip m c t = stripAt (X2 m c) (pt t) := by
  funext y
  rw [← V_v0]
  blk_simp [strip, iblk, stripAt]
  exact congrArg (V m c main_v0) (by blk_ext [index_0])

theorem dyAll_eq (c : Dev nD) : dyAll m c = DY2 m c := by
  funext y
  rw [← V_v1]
  blk_simp [dyAll, iblk]
  exact congrArg (V m c main_v1) (by blk_ext [index_1])

theorem final_2 (c : Dev nD) : (dats m 0 c).arrAt 2 cfg0.N = gradAll (DY2 m c) (X2 m c) := by
  refine (dats m 0 c).arrAt_eq_of_covers 2 _ (by decide +kernel) fun t hf y => ?_
  blk_simp
  rw [after0_2, strip_eq, dyAll_eq]
  exact gradAll_at _ _ (pt t) y _ (by blk_simp [index_2]) (by blk_simp [index_2])
theorem final_3 (c : Dev nD) : (dats m 0 c).arrAt 3 cfg0.N = xCodes (X2 m c) := by
  refine (dats m 0 c).arrAt_eq_of_covers 3 _ (by decide +kernel) fun t hf y => ?_
  blk_simp
  rw [after0_3, strip_eq]
  exact xCodes_at _ (pt t) y _ (by blk_simp [index_3]) (by blk_simp [index_3])
theorem final_4 (c : Dev nD) : (dats m 0 c).arrAt 4 cfg0.N = xScales (X2 m c) := by
  refine (dats m 0 c).arrAt_eq_of_covers 4 _ (by decide +kernel) fun t hf y => ?_
  blk_simp
  rw [after0_4, strip_eq]
  exact xScales_at _ (pt t) y _ (by blk_simp [index_4]) (by blk_simp [index_4]) (by blk_simp [index_4])
theorem final_5 (c : Dev nD) : (dats m 0 c).arrAt 5 cfg0.N = codesAll cols640 e5m2 (DY2 m c) := by
  refine (dats m 0 c).arrAt_eq_of_covers 5 _ (by decide +kernel) fun t hf y => ?_
  blk_simp
  rw [after0_5, dyAll_eq]
  exact congrArg (codesAll cols640 e5m2 (DY2 m c)) (by blk_ext [index_5])
theorem final_6 (c : Dev nD) : (dats m 0 c).arrAt 6 cfg0.N = scaleAll cols640 e5m2 (DY2 m c) := by
  refine (dats m 0 c).arrAt_eq_of_covers 6 _ (by decide +kernel) fun t hf y => ?_
  blk_simp
  rw [after0_6, dyAll_eq]
  exact congrArg (scaleAll cols640 e5m2 (DY2 m c)) (by blk_ext [index_6])

/-! ## The two transposes after the launch -/

theorem arr_inj : Function.Injective (Pipeline.arrRef spec0) := by decide

theorem tail_v3 (c : Dev nD) : (Pipeline.afterTail₀ cfgs (dats m) 0 (V0 m) [hostOps1] c main_v3 : FVec F S5120x4x12 .f32)
    = transpose S5120x4x12 [2, 1, 0] (xScales (X2 m c)) transposes_S12x4x5120_S5120x4x12_2_1_0 := by
  unfold Pipeline.afterTail₀
  show StableHlo.after [_, _] _ _ = _
  rw [StableHlo.after_cons, StableHlo.after_cons, StableHlo.after_nil,
    StableHlo.unary_result_ne (h := (by decide : main_v3 ≠ main_v4)), StableHlo.unary_result]
  refine congrArg (fun z => transpose S5120x4x12 [2, 1, 0] z transposes_S12x4x5120_S5120x4x12_2_1_0) ?_
  exact (Pipeline.withArrays_arr spec0 arr_inj c (V0 m c) _ 4).trans (final_4 m c)
theorem tail_v4 (c : Dev nD) : (Pipeline.afterTail₀ cfgs (dats m) 0 (V0 m) [hostOps1] c main_v4 : FVec F S640x4x12 .f32)
    = transpose S640x4x12 [2, 1, 0] (scaleAll cols640 e5m2 (DY2 m c)) transposes_S12x4x640_S640x4x12_2_1_0 := by
  unfold Pipeline.afterTail₀
  show StableHlo.after [_, _] _ _ = _
  rw [StableHlo.after_cons, StableHlo.after_cons, StableHlo.after_nil, StableHlo.unary_result,
    StableHlo.unary_result_ne (h := (by decide : main_v2_4 ≠ main_v3))]
  refine congrArg (fun z => transpose S640x4x12 [2, 1, 0] z transposes_S12x4x640_S640x4x12_2_1_0) ?_
  exact (Pipeline.withArrays_arr spec0 arr_inj c (V0 m c) _ 6).trans (final_6 m c)

/-- The run: the five results at those values, the arguments unchanged. -/
theorem run : θ_run defs (onTc (τ := τ) (main (F := F))) ⟨m, fun _ => 0, ρ⟩ (fun r => ∀ c : Dev nD,
      r.2.mem ((c.tc : Thread nD τ).loc main_v2_0) = gradAll (DY2 m c) (X2 m c)
      ∧ r.2.mem ((c.tc : Thread nD τ).loc main_v2_1) = xCodes (X2 m c)
      ∧ r.2.mem ((c.tc : Thread nD τ).loc main_v3) = transpose S5120x4x12 [2, 1, 0] (xScales (X2 m c)) transposes_S12x4x5120_S5120x4x12_2_1_0
      ∧ r.2.mem ((c.tc : Thread nD τ).loc main_v2_3) = codesAll cols640 e5m2 (DY2 m c)
      ∧ r.2.mem ((c.tc : Thread nD τ).loc main_v4) = transpose S640x4x12 [2, 1, 0] (scaleAll cols640 e5m2 (DY2 m c)) transposes_S12x4x640_S640x4x12_2_1_0
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final_2 m c), ((h.1 c).1 3).trans (final_3 m c),
      ((h.1 c).2 main_v3 (Pipeline.mem_restRefs_of main_v3 (by decide) (by decide))).trans (tail_v3 m c),
      ((h.1 c).1 5).trans (final_5 m c),
      ((h.1 c).2 main_v4 (Pipeline.mem_restRefs_of main_v4 (by decide) (by decide))).trans (tail_v4 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)
    (run_main_quiescent m ρ)

end Cert.KernelIdeal.Body

end
-- ==== Proof.RefRun.lean ====
/- The reference's run: its five result arrays as functions of the two argument arrays. Its one grid point loads both
   arguments whole and stores each result whole. -/
module

public import proofs.«01_k».proof.Proof.Gen.ReferenceIdeal.Frame
public import Idealize.ShloMosaic.Lib.Pipeline.ValueKit

@[expose] public section

set_option maxRecDepth 16384

noncomputable section

namespace Cert.ReferenceIdeal.Run

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The two arguments. -/
abbrev X (c : Dev nD) : Vec F S4x1536x5120 .bf16 := m ((c : Thread nD τ).loc main_arg0)
abbrev DY (c : Dev nD) : Vec F S4x1536x640 .bf16 := m ((c : Thread nD τ).loc main_arg1)

theorem hz2 : (![0, 0] : Fin 2 → Nat) = fun _ => 0 := funext fun a => by fin_cases a <;> rfl
theorem hz3 : (![0, 0, 0] : Fin 3 → Nat) = fun _ => 0 := funext fun a => by fin_cases a <;> rfl

theorem index_0 : ∀ t : Fin cfg0.N, win0_0.index t = ![0, 0, 0] := (by decide +kernel : ∀ t : Fin grid0.N, _)
theorem index_1 : ∀ t : Fin cfg0.N, win0_1.index t = ![0, 0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0, 0] := (by decide +kernel : ∀ t : Fin grid0.N, _)

/-- The one block of each argument is the argument. -/
theorem block_0 (c : Dev nD) (t : Fin cfg0.N) : (iblk m c 0 t : Vec F S4x1536x5120 .bf16) = X m c := by
  funext y
  blk_simp [iblk]
  exact congrArg (X m c) (by blk_ext [index_0])
theorem block_1 (c : Dev nD) (t : Fin cfg0.N) : (iblk m c 1 t : Vec F S4x1536x640 .bf16) = DY m c := by
  funext y
  blk_simp [iblk]
  exact congrArg (DY m c) (by blk_ext [index_1])

/-- What the body leaves in each result's buffer. -/
theorem out_2 (x : Vec F S4x1536x5120 .bf16) (y : Vec F S4x1536x640 .bf16) : out0_2 x y = k0_pay1 (k0_pay6 x) (k0_pay13 y) := by
  unfold out0_2
  rw [View.canon_unit_zero hz2, View.ld_unit_zero hz3, View.ld_unit_zero hz3]
theorem out_3 (x : Vec F S4x1536x5120 .bf16) (y : Vec F S4x1536x640 .bf16) : out0_3 x y = k0_pay7 x := by
  unfold out0_3
  rw [View.canon_unit_zero hz2, View.ld_unit_zero hz3]
theorem out_4 (x : Vec F S4x1536x5120 .bf16) (y : Vec F S4x1536x640 .bf16) : out0_4 x y = k0_pay8 x := by
  unfold out0_4
  rw [View.canon_unit_zero hz3, View.ld_unit_zero hz3]
theorem out_5 (x : Vec F S4x1536x5120 .bf16) (y : Vec F S4x1536x640 .bf16) : out0_5 x y = k0_pay14 y := by
  unfold out0_5
  rw [View.canon_unit_zero hz2, View.ld_unit_zero hz3]
theorem out_6 (x : Vec F S4x1536x5120 .bf16) (y : Vec F S4x1536x640 .bf16) : out0_6 x y = k0_pay15 y := by
  unfold out0_6
  rw [View.canon_unit_zero hz3, View.ld_unit_zero hz3]

theorem final_2 (c : Dev nD) : (dats m 0 c).arrAt 2 cfg0.N = k0_pay1 (k0_pay6 (X m c)) (k0_pay13 (DY m c)) := by
  refine (dats m 0 c).arrAt_eq_of_covers 2 _ (by decide +kernel) fun t hf y => ?_
  blk_simp
  rw [after0_2, block_0, block_1, out_2]
  exact congrArg (k0_pay1 (k0_pay6 (X m c)) (k0_pay13 (DY m c))) (by blk_ext [index_2])
theorem final_3 (c : Dev nD) : (dats m 0 c).arrAt 3 cfg0.N = k0_pay7 (X m c) := by
  refine (dats m 0 c).arrAt_eq_of_covers 3 _ (by decide +kernel) fun t hf y => ?_
  blk_simp
  rw [after0_3, block_0, block_1, out_3]
  exact congrArg (k0_pay7 (X m c)) (by blk_ext [index_3])
theorem final_4 (c : Dev nD) : (dats m 0 c).arrAt 4 cfg0.N = k0_pay8 (X m c) := by
  refine (dats m 0 c).arrAt_eq_of_covers 4 _ (by decide +kernel) fun t hf y => ?_
  blk_simp
  rw [after0_4, block_0, block_1, out_4]
  exact congrArg (k0_pay8 (X m c)) (by blk_ext [index_4])
theorem final_5 (c : Dev nD) : (dats m 0 c).arrAt 5 cfg0.N = k0_pay14 (DY m c) := by
  refine (dats m 0 c).arrAt_eq_of_covers 5 _ (by decide +kernel) fun t hf y => ?_
  blk_simp
  rw [after0_5, block_0, block_1, out_5]
  exact congrArg (k0_pay14 (DY m c)) (by blk_ext [index_5])
theorem final_6 (c : Dev nD) : (dats m 0 c).arrAt 6 cfg0.N = k0_pay15 (DY m c) := by
  refine (dats m 0 c).arrAt_eq_of_covers 6 _ (by decide +kernel) fun t hf y => ?_
  blk_simp
  rw [after0_6, block_0, block_1, out_6]
  exact congrArg (k0_pay15 (DY m c)) (by blk_ext [index_6])

/-- The run: the five results at those values, the arguments unchanged. -/
theorem run : θ_run defs (onTc (τ := τ) (main (F := F))) ⟨m, fun _ => 0, ρ⟩ (fun r => ∀ c : Dev nD,
      r.2.mem ((c.tc : Thread nD τ).loc main_v0_0) = k0_pay1 (k0_pay6 (X m c)) (k0_pay13 (DY m c))
      ∧ r.2.mem ((c.tc : Thread nD τ).loc main_v0_1) = k0_pay7 (X m c)
      ∧ r.2.mem ((c.tc : Thread nD τ).loc main_v0_2) = k0_pay8 (X m c)
      ∧ r.2.mem ((c.tc : Thread nD τ).loc main_v0_3) = k0_pay14 (DY m c)
      ∧ r.2.mem ((c.tc : Thread nD τ).loc main_v0_4) = k0_pay15 (DY m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final_2 m c), ((h c).1 3).trans (final_3 m c),
      ((h c).1 4).trans (final_4 m c), ((h c).1 5).trans (final_5 m c), ((h c).1 6).trans (final_6 m c),
      ((h c).1 0).trans ((dats m 0 c).arrAt_in 0 rfl _), ((h c).1 1).trans ((dats m 0 c).arrAt_in 1 rfl _)⟩)
    (run_main m ρ)

end Cert.ReferenceIdeal.Run

end
-- ==== Proof.Scale.lean ====
/- The exponent of a scale, over the reals: counting the powers of two above a ratio gives the same exponent as the floor
   of its base-2 logarithm, and the words built from that exponent are the powers of two it names. -/
module

public import Idealize.ShloMosaic.PureOps.Ideal
public import Idealize.ShloMosaic.Lib.IdealHost
public import Mathlib.Analysis.SpecialFunctions.Log.Basic

@[expose] public section

noncomputable section

namespace Cert.Scale

open Idealize.ShloMosaic

/-- The `k`-th of the 256 numbers a ratio is compared with: the float whose exponent field is `k`. -/
abbrev word (k : ℕ) : BitVec 32 := BitVec.ofNat 32 k <<< 23
def pw (k : ℕ) : EReal := Ideal.ofBits .f32 (word k)

theorem word_fields : ∀ k : Fin 256, ((word k.val).extractLsb' 31 1 == 1#1) = false ∧ ((word k.val).extractLsb' 23 8).toNat = k.val
    ∧ ((word k.val).extractLsb' 0 23).toNat = 0 := by decide +kernel

/-- A float of sign and fraction zero, with exponent field `k`: zero, … -/
theorem ofBits_zero (b : BitVec 32) (h1 : (b.extractLsb' 31 1 == 1#1) = false) (h2 : (b.extractLsb' 23 8).toNat = 0)
    (h3 : (b.extractLsb' 0 23).toNat = 0) : Ideal.ofBits .f32 b = 0 := by
  simp [Ideal.ofBits, Ideal.ieee, h1, h2, h3]

/-- … a power of two … -/
theorem ofBits_pos (b : BitVec 32) (k : ℕ) (h1 : (b.extractLsb' 31 1 == 1#1) = false) (h2 : (b.extractLsb' 23 8).toNat = k)
    (h3 : (b.extractLsb' 0 23).toNat = 0) (h0 : k ≠ 0) (h : k ≠ 255) :
    Ideal.ofBits .f32 b = (((2 : ℝ) ^ ((k : ℤ) - 127) : ℝ) : EReal) := by
  have e : ((2 : ℝ) ^ ((k : ℤ) - 127)) = (2 : ℝ) ^ (23 : ℤ) * (2 : ℝ) ^ ((k : ℤ) - 127 - 23) := by
    rw [← zpow_add₀ (by norm_num)]; congr 1; ring
  rw [e]
  simp [Ideal.ofBits, Ideal.ieee, h1, h2, h3, h0, h, -EReal.coe_mul]
  norm_num

/-- … or infinity. -/
theorem ofBits_top (b : BitVec 32) (h1 : (b.extractLsb' 31 1 == 1#1) = false) (h2 : (b.extractLsb' 23 8).toNat = 255)
    (h3 : (b.extractLsb' 0 23).toNat = 0) : Ideal.ofBits .f32 b = ⊤ := by
  simp [Ideal.ofBits, Ideal.ieee, h1, h2, h3]

/-- So the 256 numbers are zero, … -/
theorem pw_zero : pw 0 = 0 := by
  obtain ⟨h1, h2, h3⟩ := word_fields 0
  exact ofBits_zero _ h1 h2 h3

/-- … the powers of two `2^(k - 127)`, … -/
theorem pw_pos (k : ℕ) (h0 : 1 ≤ k) (h : k ≤ 254) : pw k = (((2 : ℝ) ^ ((k : ℤ) - 127) : ℝ) : EReal) := by
  obtain ⟨h1, h2, h3⟩ := word_fields ⟨k, by omega⟩
  exact ofBits_pos _ k h1 h2 h3 (by omega) (by omega)

/-- … and infinity. -/
theorem pw_top : pw 255 = ⊤ := by
  obtain ⟨h1, h2, h3⟩ := word_fields 255
  exact ofBits_top _ h1 h2 h3

/-- The exponent the reference gives a ratio: 0 below the smallest normal number, else the floor of the base-2 logarithm,
    plus one. -/
def refExp (R : EReal) : EReal :=
  if R < Ideal.ofBits .f32 0x00800000#32 then Ideal.ofBits .f32 0x00000000#32
  else Ideal.liftRound Int.floor (Ideal.div (Ideal.log R) (Ideal.log (Ideal.ofBits .f32 0x40000000#32))) + Ideal.ofBits .f32 0x3F800000#32

/-- How many of the 256 numbers are above a ratio. -/
def above (R : EReal) : ℕ := (Finset.univ.filter fun k : Fin 256 => R < pw k.val).card

/-- The exponent the kernel gives a biased exponent. -/
def kerExp (w : BitVec 32) : BitVec 32 := if w = 0#32 ∨ w = 255#32 then 0#32 else w - 126#32

theorem above_of {R : EReal} {f : ℕ} (hf : f ≤ 255) (h : ∀ k < 256, R < pw k ↔ f < k) : above R = 255 - f := by
  unfold above
  rw [show (Finset.univ.filter fun k : Fin 256 => R < pw k.val) = Finset.univ.filter fun k : Fin 256 => f < k.val from
    Finset.filter_congr fun k _ => h k.val k.isLt]
  have : ∀ f : Fin 256, (Finset.univ.filter fun k : Fin 256 => f.val < k.val).card = 255 - f.val := by decide +kernel
  exact this ⟨f, by omega⟩

/-- The words the kernel builds from the count, when the biased exponent is `f`. -/
theorem words : ∀ f : Fin 253, let w := 255#32 - BitVec.ofNat 32 (255 - f.val)
    (127#32 + kerExp w) <<< 23 = word (if f.val = 0 then 127 else f.val + 1)
    ∧ (127#32 - kerExp w) <<< 23 = word (if f.val = 0 then 127 else 253 - f.val) := by decide +kernel

theorem tiny : Ideal.ofBits .f32 0x00800000#32 = (((2 : ℝ) ^ (-126 : ℤ) : ℝ) : EReal) := by
  have := pw_pos 1 (by omega) (by omega)
  rw [show (0x00800000#32 : BitVec 32) = word 1 from by decide]
  exact this.trans (by norm_num)
theorem two : Ideal.ofBits .f32 0x40000000#32 = ((2 : ℝ) : EReal) := by
  have := pw_pos 128 (by omega) (by omega)
  rw [show (0x40000000#32 : BitVec 32) = word 128 from by decide]
  exact this.trans (by norm_num)
theorem zero : Ideal.ofBits .f32 0x00000000#32 = ((0 : ℝ) : EReal) := by
  rw [show (0x00000000#32 : BitVec 32) = word 0 from by decide]
  exact pw_zero.trans (by norm_num)

/-- The floor of the base-2 logarithm, … -/
def lg (r : ℝ) : ℤ := ⌊Real.log r * (1 / Real.log 2)⌋

/-- … which is below `m` exactly when the number is below `2^m`. -/
theorem lt_zpow_iff (r : ℝ) (h : 0 < r) (m : ℤ) : r < (2 : ℝ) ^ m ↔ lg r < m := by
  have h2 : 0 < Real.log 2 := Real.log_pos (by norm_num)
  unfold lg
  rw [mul_one_div, Int.floor_lt, div_lt_iff₀ h2, ← Real.log_zpow, Real.log_lt_log_iff h (by positivity)]

/-- The reference's exponent of a ratio below the smallest normal number, -/
theorem refExp_small (r : ℝ) (h : r < (2 : ℝ) ^ (-126 : ℤ)) : refExp (r : EReal) = ((0 : ℝ) : EReal) := by
  unfold refExp
  rw [tiny, if_pos (EReal.coe_lt_coe_iff.mpr h), zero]

/-- and of any other. -/
theorem refExp_normal (r : ℝ) (h : (2 : ℝ) ^ (-126 : ℤ) ≤ r) : refExp (r : EReal) = (((lg r : ℝ) + 1 : ℝ) : EReal) := by
  have hr : 0 < r := lt_of_lt_of_le (by positivity) h
  have h2 : Real.log 2 ≠ 0 := (Real.log_pos (by norm_num)).ne'
  unfold refExp
  rw [tiny, if_neg (by rw [EReal.coe_lt_coe_iff]; exact not_lt.mpr h), two, Ideal.log_coe, Ideal.log_coe, if_neg (not_le.mpr hr),
    if_neg (by norm_num), Ideal.div_coe h2, ← EReal.coe_mul, Ideal.liftRound_coe, ← lg, Ideal.ofBits_one_f32]
  norm_cast

/-- Which of the 256 numbers are above a small ratio, -/
theorem lt_pw_small (r : ℝ) (h0 : 0 ≤ r) (h : r < (2 : ℝ) ^ (-126 : ℤ)) : ∀ k < 256, (r : EReal) < pw k ↔ 0 < k := by
  intro k hk
  rcases Nat.eq_zero_or_pos k with rfl | hp
  · rw [pw_zero]
    simpa using h0
  · refine iff_of_true ?_ hp
    rcases Nat.lt_or_ge k 255 with hl | hl
    · rw [pw_pos k hp (by omega), EReal.coe_lt_coe_iff]
      exact lt_of_lt_of_le h (zpow_le_zpow_right₀ (by norm_num) (by omega))
    · rw [show k = 255 by omega, pw_top]; exact EReal.coe_lt_top r

/-- and above any other. -/
theorem lt_pw_normal (r : ℝ) (h : (2 : ℝ) ^ (-126 : ℤ) ≤ r) (f : ℕ) (hf : (f : ℤ) = lg r + 127) :
    ∀ k < 256, f ≤ 254 → ((r : EReal) < pw k ↔ f < k) := by
  intro k hk hf'
  have hr : 0 < r := lt_of_lt_of_le (by positivity) h
  rcases Nat.eq_zero_or_pos k with rfl | hp
  · rw [pw_zero]
    simpa using hr.le
  · rcases Nat.lt_or_ge k 255 with hl | hl
    · rw [pw_pos k hp (by omega), EReal.coe_lt_coe_iff]
      rw [lt_zpow_iff r hr]; omega
    · rw [show k = 255 by omega, pw_top]
      exact iff_of_true (EReal.coe_lt_top r) (by omega)

/-- For a ratio in range, the kernel's scale is two to the reference's exponent and its inverse scale is two to the
    exponent's negative. -/
theorem scale_eq (r : ℝ) (h0 : 0 ≤ r) (h : r < (2 : ℝ) ^ (125 : ℤ)) :
    Ideal.ofBits .f32 ((127#32 + kerExp (255#32 - BitVec.ofNat 32 (above (r : EReal)))) <<< 23) = Ideal.exp2 (refExp (r : EReal))
    ∧ Ideal.ofBits .f32 ((127#32 - kerExp (255#32 - BitVec.ofNat 32 (above (r : EReal)))) <<< 23)
        = Ideal.exp2 (Ideal.ofBits .f32 0x00000000#32 - refExp (r : EReal)) := by
  rcases lt_or_ge r ((2 : ℝ) ^ (-126 : ℤ)) with hs | hn
  · obtain ⟨a, b⟩ := words 0
    rw [above_of (by omega) (lt_pw_small r h0 hs), refExp_small r hs, zero]
    simp only [Fin.val_zero, if_true] at a b
    rw [a, b]
    have := pw_pos 127 (by omega) (by omega)
    unfold pw at this
    rw [this, ← EReal.coe_sub, Ideal.exp2_coe, Ideal.exp2_coe]
    constructor
    · congr 1
      exact (by norm_num : ((2 : ℝ) ^ (((127 : ℕ) : ℤ) - 127)) = 1).trans (Real.rpow_zero 2).symm
    · congr 1
      rw [sub_zero]
      exact (by norm_num : ((2 : ℝ) ^ (((127 : ℕ) : ℤ) - 127)) = 1).trans (Real.rpow_zero 2).symm
  · have hr : 0 < r := lt_of_lt_of_le (by positivity) hn
    have hlo : -126 ≤ lg r := not_lt.mp fun hc => absurd ((lt_zpow_iff r hr _).mpr hc) (not_lt.mpr hn)
    have hhi : lg r < 125 := (lt_zpow_iff r hr _).mp h
    obtain ⟨f, hf⟩ := Int.eq_ofNat_of_zero_le (show 0 ≤ lg r + 127 by omega)
    obtain ⟨a, b⟩ := words ⟨f, by omega⟩
    rw [above_of (by omega) (fun k hk => lt_pw_normal r hn f hf.symm k hk (by omega)), refExp_normal r hn, zero]
    simp only at a b
    rw [if_neg (by omega)] at a b
    have ha := pw_pos (f + 1) (by omega) (by omega)
    have hb := pw_pos (253 - f) (by omega) (by omega)
    unfold pw at ha hb
    rw [a, b, ha, hb, ← EReal.coe_sub, Ideal.exp2_coe, Ideal.exp2_coe]
    constructor
    · congr 1
      rw [show (lg r : ℝ) + 1 = ((lg r + 1 : ℤ) : ℝ) by push_cast; ring]
      exact (congrArg (fun e : ℤ => (2 : ℝ) ^ e) (by push_cast; omega)).trans (Real.rpow_intCast 2 _).symm
    · congr 1
      rw [show (0 : ℝ) - ((lg r : ℝ) + 1) = ((-(lg r + 1) : ℤ) : ℝ) by push_cast; ring]
      exact (congrArg (fun e : ℤ => (2 : ℝ) ^ e) (by omega)).trans (Real.rpow_intCast 2 _).symm

end Cert.Scale

end
-- ==== Proof.Column.lean ====
/- One column of one block, over the extended reals: its ratio, scale, inverse scale, codes and dequantised values in the
   problem's own terms, and the kernel's block operations read as these. -/
module

public import proofs.«01_k».proof.Proof.Block
public import proofs.«01_k».proof.Proof.Scale
public import Idealize.ShloMosaic.Lib.ValueIdx
public import Idealize.ShloMosaic.Lib.IndicatorCount
public import Idealize.ShloMosaic.Lib.Pipeline.ValueKit
public import Idealize.ShloMosaic.PureOps.Ideal.Laws

@[expose] public section

noncomputable section

namespace Cert.Quant

open Idealize.ShloMosaic
open Idealize.ShloMosaic.ValueIdx (idx2_lt0 idx2_lt1)

/-- The largest magnitude in a column. -/
def colMax (u : Fin 128 → EReal) : EReal :=
  (Finset.univ : Finset (Fin 128)).fold max (Ideal.ofBits .bf16 0xFF80#16) fun p => max (u p) (-(u p))
/-- The same over the largest number of the format. -/
def colRatio (f : Fmt) (u : Fin 128 → EReal) : EReal := colMax u * Ideal.ofBits .f32 f.recip
/-- The column's scale, … -/
def colScale (f : Fmt) (u : Fin 128 → EReal) : EReal := Ideal.exp2 (Scale.refExp (colRatio f u))
/-- … its inverse, … -/
def colInv (f : Fmt) (u : Fin 128 → EReal) : EReal :=
  Ideal.exp2 (Ideal.ofBits .f32 0x00000000#32 - Scale.refExp (colRatio f u))
/-- … its codes … -/
def colCode (f : Fmt) (u : Fin 128 → EReal) (p : Fin 128) : EReal :=
  min (Ideal.ofBits .f32 f.hi) (max (Ideal.ofBits .f32 f.lo) (u p * colInv f u))
/-- … and its values read back from the codes. -/
def colDeq (f : Fmt) (u : Fin 128 → EReal) (p : Fin 128) : EReal := colCode f u p * colScale f u

/-- The ratio is a real number small enough for its exponent to be counted. -/
def InRange (f : Fmt) (u : Fin 128 → EReal) : Prop := ∃ r : ℝ, 0 ≤ r ∧ r < (2 : ℝ) ^ (125 : ℤ) ∧ colRatio f u = (r : EReal)

variable {c : ℕ}

/-- Column `d` of a block. -/
abbrev colAt (v : FVec Ideal (Sh 128 c) .bf16) (d : Fin c) : Fin 128 → EReal := fun p => v (ValueIdx.ix2 p d)

theorem row_zero (a : Fin 1) (d : Fin c) : ((Sh1 c).rowMajor (ValueIdx.ix1 d)).val = ((Sh 1 c).rowMajor (ValueIdx.ix2 a d)).val := by
  rw [Shape.rowMajor_val_one, Shape.rowMajor_val_two]
  have : a.val = 0 := by omega
  show d.val = a.val * c + d.val
  rw [this]; omega

theorem lift_row {r : ℕ} (h : (Sh r c).Reduces [0] (Sh1 c)) (d : Fin c) (p : Fin r) : h.lift (ValueIdx.ix1 d) p = ValueIdx.ix2 p d := by
  funext a; apply Fin.ext
  match a with
  | ⟨0, _⟩ => rfl
  | ⟨1, _⟩ => rfl

theorem ratio_apply (h : Cols c) (f : Fmt) (v : FVec Ideal (Sh 128 c) .bf16) (a : Fin 1) (d : Fin c) :
    ratio h f v (ValueIdx.ix2 a d) = colRatio f (colAt v d) := by
  unfold ratio
  rw [ValueIdx.mulf_apply, ValueIdx.extf_apply, shapeCast_apply _ h.up (ValueIdx.ix2 a d) (ValueIdx.ix1 d) (row_zero a d),
    shapeCast_self]
  unfold colRatio colMax
  refine congrArg₂ (· * ·) ((Ideal.multiReduction_maximumf_single _ _ h.rows _ _ _).trans ?_) rfl
  refine Finset.fold_congr fun p _ => ?_
  exact congrArg (fun i => (FloatOps.absf (v i) : Ideal .bf16)) (lift_row h.rows d p)

theorem wide_row {r : ℕ} (h : (Sh 1 c).Broadcasts (Sh r c)) {α : Type} (x : (Sh 1 c).Idx → α) (p : Fin r) (d : Fin c) :
    broadcastTo (Sh r c) x h (ValueIdx.ix2 p d) = x (ValueIdx.ix2 0 d) := by
  refine broadcastTo_apply x h _ _ fun a => ?_
  match a with
  | ⟨0, _⟩ => rfl
  | ⟨1, _⟩ =>
    show d.val = if c = 1 then 0 else d.val
    have := d.isLt
    split <;> omega

/-- The counted exponent. -/
theorem field_apply (h : Cols c) (r : FVec Ideal (Sh 1 c) .f32) (a : Fin 1) (d : Fin c) :
    field h r (ValueIdx.ix2 a d) = 255#32 - BitVec.ofNat 32 (Scale.above (r (ValueIdx.ix2 0 d))) := by
  unfold field
  show 255#32 - _ = _
  congr 1
  rw [shapeCast_apply _ h.up (ValueIdx.ix2 a d) (ValueIdx.ix1 d) (row_zero a d)]
  refine (multiReductionI_eq_fold _ _ _ h.count _ _).trans ?_
  refine (h.count.fold_filter_drop_single _ _ _ _).trans ?_
  have e : ∀ k : Fin 256, ((extui 32 (cmpf .olt (broadcastTo (Sh 256 c) r h.wide)
          (bitcastToFloat .f32 (shli (iota .tc (Sh 256 c) 32 [0] h.iota) (broadcast (Sh 256 c) 23#32))))
          (by decide : 1 < 32)) ∘ h.count.lift (ValueIdx.ix1 d)) k
      = (BitVec.ofBool (decide (r (ValueIdx.ix2 0 d) < Scale.pw k.val))).setWidth 32 := by
    intro k
    show (extui 32 _ _) (h.count.lift (ValueIdx.ix1 d) k) = _
    rw [lift_row, ValueIdx.extui_apply, ValueIdx.cmpf_apply, wide_row]
    show (Ideal.cmp .olt _ (Ideal.ofBits .f32 (IntOp.shli .vector (iota .tc (Sh 256 c) 32 [0] h.iota (ValueIdx.ix2 k d)) 23#32))).setWidth 32 = _
    rw [iota_single_apply]
    rfl
  refine (Finset.fold_congr (fun k _ => e k)).trans ?_
  refine (IndicatorCount.fold_addi_setWidth_eq_card
    (fun k : Fin 256 => BitVec.ofBool (decide (r (ValueIdx.ix2 0 d) < Scale.pw k.val))) Finset.univ).trans ?_
  unfold Scale.above
  congr 2
  refine Finset.filter_congr fun k _ => ?_
  by_cases hk : r (ValueIdx.ix2 0 d) < Scale.pw k.val <;> simp [hk]

theorem expo_apply (h : Cols c) (f : Fmt) (v : FVec Ideal (Sh 128 c) .bf16) (a : Fin 1) (d : Fin c) :
    expo h f v (ValueIdx.ix2 a d) = Scale.kerExp (255#32 - BitVec.ofNat 32 (Scale.above (colRatio f (colAt v d)))) := by
  unfold expo
  rw [← ratio_apply h f v 0 d, ← field_apply h (ratio h f v) a d]
  generalize field h (ratio h f v) = w
  show Scalar.select (IntOp.ori (IntOp.cmpi .eq (w (ValueIdx.ix2 a d)) 0#32) (IntOp.cmpi .eq (w (ValueIdx.ix2 a d)) 255#32)) 0#32
    (w (ValueIdx.ix2 a d) - 126#32) = _
  generalize w (ValueIdx.ix2 a d) = b
  unfold Scale.kerExp
  by_cases h0 : b = 0#32
  · subst h0; rfl
  · by_cases h1 : b = 255#32
    · subst h1; rfl
    · rw [if_neg (by tauto)]
      have hb : (b == 0#32 || b == 255#32) = false := by simp [h0, h1]
      simp [Scalar.select, IntOp.ori, IntOp.cmpi, hb]

/-- The kernel's scale of a column is two to the floor of the base-2 logarithm of its ratio, plus one. -/
theorem scale_apply (h : Cols c) (f : Fmt) (v : FVec Ideal (Sh 128 c) .bf16) (a : Fin 1) (d : Fin c)
    (hr : InRange f (colAt v d)) : scale h f v (ValueIdx.ix2 a d) = colScale f (colAt v d) := by
  obtain ⟨r, h0, h1, e⟩ := hr
  show Ideal.ofBits .f32 (IntOp.shli .vector (127#32 + expo h f v (ValueIdx.ix2 a d)) 23#32) = _
  rw [expo_apply]
  unfold colScale
  rw [e]
  exact (Scale.scale_eq r h0 h1).1

theorem inverse_apply (h : Cols c) (f : Fmt) (v : FVec Ideal (Sh 128 c) .bf16) (a : Fin 1) (d : Fin c)
    (hr : InRange f (colAt v d)) : inverse h f v (ValueIdx.ix2 a d) = colInv f (colAt v d) := by
  obtain ⟨r, h0, h1, e⟩ := hr
  show Ideal.ofBits .f32 (IntOp.shli .vector (127#32 - expo h f v (ValueIdx.ix2 a d)) 23#32) = _
  rw [expo_apply]
  unfold colInv
  rw [e]
  exact (Scale.scale_eq r h0 h1).2

theorem scaled_apply (h : Cols c) (f : Fmt) (v : FVec Ideal (Sh 128 c) .bf16) (p : Fin 128) (d : Fin c)
    (hr : InRange f (colAt v d)) : scaled h f v (ValueIdx.ix2 p d) = colCode f (colAt v d) p := by
  unfold scaled
  rw [ValueIdx.minimumf_apply, ValueIdx.maximumf_apply, ValueIdx.mulf_apply, shapeCast_self, wide_row, ValueIdx.truncf_apply,
    inverse_apply h f v 0 d hr]
  rfl

theorem turn_apply {r : ℕ} (h : (Sh r c).Transposes [1, 0] (Sh c r)) {α : Type} (x : (Sh r c).Idx → α) (p : Fin r) (d : Fin c) :
    transpose (Sh c r) [1, 0] x h (ValueIdx.ix2 d p) = x (ValueIdx.ix2 p d) := by
  refine transpose_apply [1, 0] x h _ _ fun b => ?_
  match b with
  | ⟨0, _⟩ => rfl
  | ⟨1, _⟩ => rfl

theorem codes_apply (h : Cols c) (f : Fmt) (v : FVec Ideal (Sh 128 c) .bf16) (p : Fin 128) (d : Fin c)
    (hr : InRange f (colAt v d)) : codes h f v (ValueIdx.ix2 d p) = colCode f (colAt v d) p := by
  unfold codes
  rw [ValueIdx.truncf_apply, turn_apply, scaled_apply h f v p d hr]

theorem deq_apply (h : Cols c) (f : Fmt) (v : FVec Ideal (Sh 128 c) .bf16) (p : Fin 128) (d : Fin c)
    (hr : InRange f (colAt v d)) : deq h f v (ValueIdx.ix2 p d) = colDeq f (colAt v d) p := by
  unfold deq
  rw [ValueIdx.mulf_apply, ValueIdx.extf_apply, ValueIdx.truncf_apply, wide_row, ValueIdx.truncf_apply, scaled_apply h f v p d hr,
    scale_apply h f v 0 d hr]
  rfl

theorem deqT_apply (h : Cols c) (f : Fmt) (v : FVec Ideal (Sh 128 c) .bf16) (p : Fin 128) (d : Fin c)
    (hr : InRange f (colAt v d)) : deqT h f v (ValueIdx.ix2 d p) = colDeq f (colAt v d) p := by
  unfold deqT
  rw [turn_apply, deq_apply h f v p d hr]

end Cert.Quant

end
-- ==== Proof.RefColumn.lean ====
/- The reference's quantisation, one definition for any number of columns and either format, and its scales, codes and
   dequantised values read, over the extended reals, as those of the columns of the blocks. -/
module

public import proofs.«01_k».proof.Proof.Column
public import proofs.«01_k».proof.Proof.Gen.ReferenceIdeal.Skeleton

@[expose] public section

noncomputable section

namespace Cert.Quant

open Idealize.ShloMosaic
open Idealize.ShloMosaic.ValueIdx (idx2_lt0 idx2_lt1)

/-- The shapes of the scales, of the scales with the row axis kept, and of the array by blocks. -/
abbrev R3 (c : ℕ) : Shape := ⟨3, ![4, 12, c]⟩
abbrev R31 (c : ℕ) : Shape := ⟨4, ![4, 12, 1, c]⟩
abbrev R4 (c : ℕ) : Shape := ⟨4, ![4, 12, 128, c]⟩
abbrev RT (c : ℕ) : Shape := ⟨3, ![c, 4, 12]⟩

/-- The side conditions of the reference's operations. -/
structure RCols (c : ℕ) : Prop where
  rows : (R4 c).Reduces [2] (R3 c)
  up : (R3 c).ShapeCasts (R31 c)
  spread : (R31 c).Broadcasts (R4 c)
  flat : (R4 c).ShapeCasts (Sh 6144 c)
  turn : (Sh 6144 c).Transposes [1, 0] (Sh c 6144)
  turnS : (R3 c).Transposes [2, 0, 1] (RT c)

variable {F : FTy → Type} [FloatOps F] {c : ℕ}

/-- Each column's largest magnitude over the largest number of the format. -/
def refRatio (h : RCols c) (f : Fmt) (w : FVec F (R4 c) .bf16) : FVec F (R3 c) .f32 :=
  mulf (extf .f32 (multiReduction .maximumf [2] (R3 c) (absf w) 0xFF80#16 h.rows (.inr rfl) rfl)
    (by decide : FTy.bits .bf16 < FTy.bits .f32)) (broadcast (R3 c) (Scalar.ofBits .f32 f.recip))

/-- The exponent of each column's scale. -/
def refExpo (h : RCols c) (f : Fmt) (w : FVec F (R4 c) .bf16) : FVec F (R3 c) .f32 :=
  select (cmpf .olt (refRatio h f w) (broadcast (R3 c) (Scalar.ofBits .f32 0x00800000#32)))
    (broadcast (R3 c) (Scalar.ofBits .f32 0x00000000#32))
    (addf (floor (divf (log (refRatio h f w)) (log (broadcast (R3 c) (Scalar.ofBits .f32 0x40000000#32)))))
      (broadcast (R3 c) (Scalar.ofBits .f32 0x3F800000#32)))

/-- Each column's scale. -/
def refScale (h : RCols c) (f : Fmt) (w : FVec F (R4 c) .bf16) : FVec F (R3 c) .f32 := exp2 (refExpo h f w)

/-- The codes. -/
def refCodes (h : RCols c) (f : Fmt) (w : FVec F (R4 c) .bf16) : FVec F (R4 c) f.φ :=
  truncf f.φ
    (minimumf (broadcast (R4 c) (Scalar.truncf .bf16 (by decide : FTy.bits .bf16 < FTy.bits .f32) (Scalar.ofBits .f32 f.hi)))
      (maximumf (broadcast (R4 c) (Scalar.truncf .bf16 (by decide : FTy.bits .bf16 < FTy.bits .f32) (Scalar.ofBits .f32 f.lo)))
        (mulf w (broadcastTo (R4 c) (shapeCast (R31 c)
          (truncf .bf16 (exp2 (subf (broadcast (R3 c) (Scalar.ofBits .f32 0x00000000#32)) (refExpo h f w)))
            (by decide : FTy.bits .bf16 < FTy.bits .f32)) h.up) h.spread)))) f.lt

/-- The values read back from the codes, one row for each row of the array. -/
def refDeq (h : RCols c) (f : Fmt) (w : FVec F (R4 c) .bf16) : FVec F (Sh 6144 c) .bf16 :=
  shapeCast (Sh 6144 c) (mulf (extf .bf16 (refCodes h f w) f.lt)
    (broadcastTo (R4 c) (shapeCast (R31 c) (truncf .bf16 (refScale h f w) (by decide : FTy.bits .bf16 < FTy.bits .f32)) h.up) h.spread)) h.flat

/-- The codes, one row for each column, and the scales, one row for each column. -/
def refCodesT (h : RCols c) (f : Fmt) (w : FVec F (R4 c) .bf16) : FVec F (Sh c 6144) f.φ :=
  transpose (Sh c 6144) [1, 0] (shapeCast (Sh 6144 c) (refCodes h f w) h.flat) h.turn
def refScaleT (h : RCols c) (f : Fmt) (w : FVec F (R4 c) .bf16) : FVec F (RT c) .f32 :=
  transpose (RT c) [2, 0, 1] (refScale h f w) h.turnS

/-! ## Read over the extended reals -/

/-- Column `d` of block `b` of batch `n`. -/
abbrev rcol (w : FVec Ideal (R4 c) .bf16) (n : Fin 4) (b : Fin 12) (d : Fin c) : Fin 128 → EReal := fun p => w (ValueIdx.ix4 n b p d)

theorem lift_block (h : (R4 c).Reduces [2] (R3 c)) (n : Fin 4) (b : Fin 12) (d : Fin c) (p : Fin 128) :
    h.lift (ValueIdx.ix3 n b d) p = ValueIdx.ix4 n b p d := by
  funext a; apply Fin.ext
  match a with
  | ⟨0, _⟩ => rfl
  | ⟨1, _⟩ => rfl
  | ⟨2, _⟩ => rfl
  | ⟨3, _⟩ => rfl

theorem refRatio_apply (h : RCols c) (f : Fmt) (w : FVec Ideal (R4 c) .bf16) (n : Fin 4) (b : Fin 12) (d : Fin c) :
    refRatio h f w (ValueIdx.ix3 n b d) = colRatio f (rcol w n b d) := by
  unfold refRatio
  rw [ValueIdx.mulf_apply, ValueIdx.extf_apply]
  unfold colRatio colMax
  refine congrArg₂ (· * ·) ((Ideal.multiReduction_maximumf_single _ _ h.rows _ _ _).trans ?_) rfl
  refine Finset.fold_congr fun p _ => ?_
  exact congrArg (fun i => (FloatOps.absf (w i) : Ideal .bf16)) (lift_block h.rows n b d p)

theorem refExpo_apply (h : RCols c) (f : Fmt) (w : FVec Ideal (R4 c) .bf16) (n : Fin 4) (b : Fin 12) (d : Fin c) :
    refExpo h f w (ValueIdx.ix3 n b d) = Scale.refExp (colRatio f (rcol w n b d)) := by
  unfold refExpo
  rw [← refRatio_apply h f w n b d]
  generalize refRatio h f w = R
  show Scalar.select (BitVec.ofBool (decide (R (ValueIdx.ix3 n b d) < Ideal.ofBits .f32 0x00800000#32))) _ _ = _
  unfold Scale.refExp
  by_cases hk : R (ValueIdx.ix3 n b d) < Ideal.ofBits .f32 0x00800000#32
  · rw [if_pos hk, decide_eq_true hk]; rfl
  · rw [if_neg hk, decide_eq_false hk]; rfl

theorem refScale_apply (h : RCols c) (f : Fmt) (w : FVec Ideal (R4 c) .bf16) (n : Fin 4) (b : Fin 12) (d : Fin c) :
    refScale h f w (ValueIdx.ix3 n b d) = colScale f (rcol w n b d) := by
  show Ideal.exp2 (refExpo h f w (ValueIdx.ix3 n b d)) = _
  rw [refExpo_apply]
  rfl

/-- A value per column, spread over the rows of its block. -/
theorem spread_apply (h : RCols c) {α : Type} (x : (R3 c).Idx → α) (n : Fin 4) (b : Fin 12) (p : Fin 128) (d : Fin c) :
    broadcastTo (R4 c) (shapeCast (R31 c) x h.up) h.spread (ValueIdx.ix4 n b p d) = x (ValueIdx.ix3 n b d) := by
  refine (broadcastTo_apply _ h.spread _ (ValueIdx.ix4 n b 0 d) fun a => ?_).trans
    (shapeCast_apply x h.up _ (ValueIdx.ix3 n b d) ?_)
  · match a with
    | ⟨0, _⟩ => rfl
    | ⟨1, _⟩ => rfl
    | ⟨2, _⟩ => rfl
    | ⟨3, _⟩ =>
      show d.val = if c = 1 then 0 else d.val
      have := d.isLt
      split <;> omega
  · rw [Shape.rowMajor_val_three, Shape.rowMajor_val_four]
    show (n.val * 12 + b.val) * c + d.val = ((n.val * 12 + b.val) * 1 + 0) * c + d.val
    rw [Nat.mul_one, Nat.add_zero]

theorem refCodes_apply (h : RCols c) (f : Fmt) (w : FVec Ideal (R4 c) .bf16) (n : Fin 4) (b : Fin 12) (p : Fin 128) (d : Fin c) :
    refCodes h f w (ValueIdx.ix4 n b p d) = colCode f (rcol w n b d) p := by
  unfold refCodes
  rw [ValueIdx.truncf_apply, ValueIdx.minimumf_apply, ValueIdx.maximumf_apply, ValueIdx.mulf_apply, spread_apply h, ValueIdx.truncf_apply]
  unfold colCode colInv
  rw [← refExpo_apply h f w n b d]
  rfl

/-- Row `t` of the flat array is row `t % 128` of block `t / 128`. -/
theorem flat_apply (h : (R4 c).ShapeCasts (Sh 6144 c)) {α : Type} (x : (R4 c).Idx → α) (t : Fin 6144) (d : Fin c) :
    shapeCast (Sh 6144 c) x h (ValueIdx.ix2 t d)
      = x (ValueIdx.ix4 ⟨t.val / 1536, by have := t.isLt; omega⟩ ⟨t.val % 1536 / 128, by have := t.isLt; omega⟩ (placeOf t) d) := by
  refine shapeCast_apply x h _ _ ?_
  rw [Shape.rowMajor_val_two, Shape.rowMajor_val_four]
  show (((t.val / 1536) * 12 + t.val % 1536 / 128) * 128 + t.val % 128) * c + d.val = t.val * c + d.val
  congr 2
  omega

/-- The reference's array by blocks is the flat array's blocks. -/
def Blocks (w : FVec Ideal (R4 c) .bf16) (x : FVec Ideal (Sh 6144 c) .bf16) : Prop :=
  ∀ (n : Fin 4) (b : Fin 12) (d : Fin c), rcol w n b d = colAt (blk x (blockAt b n)) d

theorem refCodesT_apply (h : RCols c) (f : Fmt) (w : FVec Ideal (R4 c) .bf16) (x : FVec Ideal (Sh 6144 c) .bf16) (hb : Blocks w x)
    (d : Fin c) (t : Fin 6144) :
    refCodesT h f w (ValueIdx.ix2 d t) = colCode f (colAt (blk x (blockOf t)) d) (placeOf t) := by
  unfold refCodesT
  rw [turn_apply, flat_apply, refCodes_apply, hb]
  congr 4
  apply Fin.ext
  show 12 * (t.val / 1536) + t.val % 1536 / 128 = t.val / 128
  omega

theorem refDeq_apply (h : RCols c) (f : Fmt) (w : FVec Ideal (R4 c) .bf16) (x : FVec Ideal (Sh 6144 c) .bf16) (hb : Blocks w x)
    (d : Fin c) (t : Fin 6144) :
    refDeq h f w (ValueIdx.ix2 t d) = colDeq f (colAt (blk x (blockOf t)) d) (placeOf t) := by
  have e : blockAt ⟨t.val % 1536 / 128, by have := t.isLt; omega⟩ ⟨t.val / 1536, by have := t.isLt; omega⟩ = blockOf t := by
    apply Fin.ext
    show 12 * (t.val / 1536) + t.val % 1536 / 128 = t.val / 128
    omega
  unfold refDeq
  rw [flat_apply, ValueIdx.mulf_apply, ValueIdx.extf_apply, spread_apply h, ValueIdx.truncf_apply, refCodes_apply, refScale_apply, hb, e]
  rfl

theorem refScaleT_apply (h : RCols c) (f : Fmt) (w : FVec Ideal (R4 c) .bf16) (x : FVec Ideal (Sh 6144 c) .bf16) (hb : Blocks w x)
    (d : Fin c) (n : Fin 4) (b : Fin 12) :
    refScaleT h f w (ValueIdx.ix3 d n b) = colScale f (colAt (blk x (blockAt b n)) d) := by
  unfold refScaleT
  rw [← hb, ← refScale_apply h f w n b d]
  refine transpose_apply [2, 0, 1] _ h.turnS _ _ fun a => ?_
  match a with
  | ⟨0, _⟩ => rfl
  | ⟨1, _⟩ => rfl
  | ⟨2, _⟩ => rfl

/-! ## The printed reference is these -/

open Cert.ReferenceIdeal Cert.ReferenceIdeal.Gen

theorem rcols5120 : RCols 5120 :=
  ⟨reduces_S4x12x128x5120_S4x12x5120, shapeCasts_S4x12x5120_S4x12x1x5120, broadcasts_S4x12x1x5120_S4x12x128x5120,
    shapeCasts_S4x12x128x5120_S6144x5120, transposes_S6144x5120_p1_0_S5120x6144, transposes_S4x12x5120_p2_0_1_S5120x4x12⟩
theorem rcols640 : RCols 640 :=
  ⟨reduces_S4x12x128x640_S4x12x640, shapeCasts_S4x12x640_S4x12x1x640, broadcasts_S4x12x1x640_S4x12x128x640,
    shapeCasts_S4x12x128x640_S6144x640, transposes_S6144x640_p1_0_S640x6144, transposes_S4x12x640_p2_0_1_S640x4x12⟩

theorem pay6_eq (v : Vec F S4x1536x5120 .bf16) : k0_pay6 v = refDeq rcols5120 e4m3 (k0_pay2 v) := rfl
theorem pay7_eq (v : Vec F S4x1536x5120 .bf16) : k0_pay7 v = refCodesT rcols5120 e4m3 (k0_pay2 v) := rfl
theorem pay8_eq (v : Vec F S4x1536x5120 .bf16) : k0_pay8 v = refScaleT rcols5120 e4m3 (k0_pay2 v) := rfl
theorem pay13_eq (v : Vec F S4x1536x640 .bf16) : k0_pay13 v = refDeq rcols640 e5m2 (k0_pay9 v) := rfl
theorem pay14_eq (v : Vec F S4x1536x640 .bf16) : k0_pay14 v = refCodesT rcols640 e5m2 (k0_pay9 v) := rfl
theorem pay15_eq (v : Vec F S4x1536x640 .bf16) : k0_pay15 v = refScaleT rcols640 e5m2 (k0_pay9 v) := rfl

end Cert.Quant

end
-- ==== Proof.Range.lean ====
/- On finite arguments every ratio is a real number below `2^125`, so the exponents are the ones counted. -/
module

public import proofs.«01_k».proof.Proof.Column
public import proofs.«01_k».proof.Proof.Gen.Pre_finite_bf16
public import Idealize.ShloMosaic.Lib.ReduceAll
public import Idealize.ShloMosaic.Lib.Affine

@[expose] public section

noncomputable section

namespace Cert.Quant

open Idealize.ShloMosaic

/-- The largest finite bf16. -/
theorem big_eq : Ideal.ofBits .bf16 0x7F7F#16 = (((255 : ℝ) * 2 ^ (120 : ℤ) : ℝ) : EReal) := by
  simp [Ideal.ofBits, Ideal.ieee, -EReal.coe_mul]
theorem bot_eq : Ideal.ofBits .bf16 0xFF80#16 = ⊥ := by
  simp [Ideal.ofBits, Ideal.ieee]

/-- The reciprocal of the format's largest number is a small positive real. -/
def Tame (f : Fmt) : Prop := ∃ q : ℝ, Ideal.ofBits .f32 f.recip = (q : EReal) ∧ 0 ≤ q ∧ q < (2 : ℝ) ^ (-8 : ℤ)

theorem tame_e4m3 : Tame e4m3 := by
  refine ⟨9586981 * 2 ^ (-32 : ℤ), ?_, by positivity, by norm_num⟩
  simp [Ideal.ofBits, Ideal.ieee, -EReal.coe_mul]
theorem tame_e5m2 : Tame e5m2 := by
  refine ⟨9586981 * 2 ^ (-39 : ℤ), ?_, by positivity, by norm_num⟩
  simp [Ideal.ofBits, Ideal.ieee, -EReal.coe_mul]

theorem inRange (f : Fmt) (hf : Tame f) (u : Fin 128 → EReal) (hu : ∀ p, max (u p) (-(u p)) ≤ Ideal.ofBits .bf16 0x7F7F#16) :
    InRange f u := by
  obtain ⟨q, hq, q0, q1⟩ := hf
  have lo : (0 : EReal) ≤ colMax u := by
    refine (Finset.le_fold_max _).mpr (.inr ⟨0, Finset.mem_univ _, ?_⟩)
    rcases le_total 0 (u 0) with h | h
    · exact le_max_of_le_left h
    · exact le_max_of_le_right (EReal.neg_nonneg.mpr h)
  have hi : colMax u ≤ (((255 : ℝ) * 2 ^ (120 : ℤ) : ℝ) : EReal) := by
    rw [← big_eq]
    exact (Finset.fold_max_le _).mpr ⟨bot_eq ▸ bot_le, fun p _ => hu p⟩
  obtain ⟨r, hr⟩ : ∃ r : ℝ, colMax u = (r : EReal) := by
    refine ⟨(colMax u).toReal, (EReal.coe_toReal ?_ ?_).symm⟩
    · exact ne_of_lt (lt_of_le_of_lt hi (EReal.coe_lt_top _))
    · exact ne_of_gt (lt_of_lt_of_le (by exact_mod_cast EReal.bot_lt_coe 0) lo)
  rw [hr] at lo hi
  have r0 : 0 ≤ r := by exact_mod_cast lo
  have r1 : r ≤ 255 * 2 ^ (120 : ℤ) := EReal.coe_le_coe_iff.mp hi
  refine ⟨r * q, mul_nonneg r0 q0, ?_, ?_⟩
  · calc r * q ≤ (255 * 2 ^ (120 : ℤ)) * 2 ^ (-8 : ℤ) := mul_le_mul r1 q1.le q0 (by positivity)
      _ < 2 ^ (125 : ℤ) := by norm_num
  · unfold colRatio
    rw [hr, hq, EReal.coe_mul]

/-- Every element's magnitude is at most the largest finite bf16. -/
def Small {s : Shape} (x : FVec Ideal s .bf16) : Prop := ∀ i, max (x i) (-(x i)) ≤ Ideal.ofBits .bf16 0x7F7F#16

theorem inRange_blk {c : ℕ} (f : Fmt) (hf : Tame f) (x : FVec Ideal (Sh 6144 c) .bf16) (hx : Small x) (b : Fin 48) (d : Fin c) :
    InRange f (colAt (blk x b) d) := inRange f hf _ fun _ => hx _

/-- A conjunction over all elements of a comparison with the largest finite bf16, read. -/
theorem small_of_all {s u : Shape} [Subsingleton u.Idx] {axes : List (Fin s.rank)} (x b : FVec Ideal s .bf16) (init : IVec u 1)
    (h : s.ReducesTo axes u) (hu : 0 < u.numel) (hb : ∀ i, b i = Ideal.ofBits .bf16 0x7F7F#16) (j : u.Idx)
    (e : Host.reduce IntOp.andi (cmpf .ole (Host.absf x) b) init h hu j = 1#1) : Small x := by
  intro i
  have hi : BitVec.ofBool (decide (max (x i) (-(x i)) ≤ b i)) = 1#1 := Host.reduce_andi_all _ init h hu j e i
  rw [hb] at hi
  by_contra hc
  rw [decide_eq_false hc] at hi
  exact absurd hi (by decide)

open Cert.Pre_finite_bf16 in
/-- The precondition says so of both arguments. -/
theorem small_of_pre [Facts] (x : FVec Ideal S4x1536x5120 .bf16) (y : FVec Ideal S4x1536x640 .bf16)
    (h : Cert.Pre_finite_bf16.fn (F := Ideal) x y = fun _ => 1#1) : Small x ∧ Small y := by
  haveI : Subsingleton S_.Idx := ⟨fun a b => funext fun k => k.elim0⟩
  obtain ⟨hx, hy⟩ := IntOp.andi_eq_one.mp (congrFun h ValueIdx.ix0)
  exact ⟨small_of_all x _ _ _ _ (fun _ => rfl) _ hx, small_of_all y _ _ _ _ (fun _ => rfl) _ hy⟩

end Cert.Quant

end
-- ==== Proof.Equation.lean ====
/- The equation: on arguments of finite magnitude the kernel's five results are the reference's, over the extended reals.
   Codes and scales agree element by element; the gradient's twelve partial sums are one sum over all rows. -/
module

public import proofs.«01_k».proof.Proof.KernelValue
public import proofs.«01_k».proof.Proof.RefColumn
public import proofs.«01_k».proof.Proof.Range
public import Idealize.ShloMosaic.Lib.MatmulPlain
public import Mathlib.Logic.Equiv.Fin.Basic
public import Mathlib.Algebra.BigOperators.Fin

@[expose] public section

set_option maxRecDepth 16384

noncomputable section

namespace Cert.Quant

open Idealize.ShloMosaic
open Idealize.ShloMosaic.ValueIdx (idx2_lt0 idx2_lt1)

variable {c : ℕ}

/-! ## Both sides view one array of 4 batches of 1536 rows -/

abbrev Arg (c : ℕ) : Shape := ⟨3, ![4, 1536, c]⟩

/-- Row `k` of block `b` of batch `n`, in the argument. -/
abbrev argAt (n : Fin 4) (b : Fin 12) (p : Fin 128) (d : Fin c) : (Arg c).Idx :=
  ValueIdx.ix3 n ⟨128 * b.val + p.val, by have := b.isLt; have := p.isLt; omega⟩ d

theorem blocks_of (h4 : (Arg c).ShapeCasts (R4 c)) (h2 : (Arg c).ShapeCasts (Sh 6144 c)) (x : FVec Ideal (Arg c) .bf16) :
    Blocks (shapeCast (R4 c) x h4) (shapeCast (Sh 6144 c) x h2) := by
  intro n b d
  funext p
  refine (shapeCast_apply x h4 _ (argAt n b p d) ?_).trans (shapeCast_apply x h2 _ (argAt n b p d) ?_).symm
  · rw [Shape.rowMajor_val_three, Shape.rowMajor_val_four]
    show (n.val * 1536 + (128 * b.val + p.val)) * c + d.val = ((n.val * 12 + b.val) * 128 + p.val) * c + d.val
    congr 2; omega
  · rw [Shape.rowMajor_val_three, Shape.rowMajor_val_two]
    show (n.val * 1536 + (128 * b.val + p.val)) * c + d.val = (128 * (12 * n.val + b.val) + p.val) * c + d.val
    congr 2; omega

theorem small_cast {s t : Shape} (x : FVec Ideal s .bf16) (h : s.ShapeCasts t) (hx : Small x) : Small (shapeCast t x h : FVec Ideal t .bf16) :=
  fun _ => hx _

/-! ## The kernel's arrays, column by column -/

theorem codesAll_apply (h : Cols c) (f : Fmt) (hf : Tame f) (x : FVec Ideal (Sh 6144 c) .bf16) (hx : Small x) (d : Fin c) (t : Fin 6144) :
    codesAll h f x (ValueIdx.ix2 d t) = colCode f (colAt (blk x (blockOf t)) d) (placeOf t) :=
  codes_apply h f (blk x (blockOf t)) (placeOf t) d (inRange_blk f hf x hx _ d)

theorem deqTAll_apply (h : Cols c) (f : Fmt) (hf : Tame f) (x : FVec Ideal (Sh 6144 c) .bf16) (hx : Small x) (d : Fin c) (t : Fin 6144) :
    deqTAll h f x (ValueIdx.ix2 d t) = colDeq f (colAt (blk x (blockOf t)) d) (placeOf t) :=
  deqT_apply h f (blk x (blockOf t)) (placeOf t) d (inRange_blk f hf x hx _ d)

theorem scaleAll_apply (h : Cols c) (f : Fmt) (hf : Tame f) (x : FVec Ideal (Sh 6144 c) .bf16) (hx : Small x) (k : Fin 12) (n : Fin 4)
    (d : Fin c) : scaleAll h f x (ValueIdx.ix3 k n d) = colScale f (colAt (blk x (blockAt k n)) d) :=
  scale_apply h f (blk x (blockAt k n)) 0 d (inRange_blk f hf x hx _ d)

theorem small_strip (x : FVec Ideal (Sh 6144 5120) .bf16) (hx : Small x) (s : Fin 10) : Small (stripAt x s) := fun _ => hx _

/-- A column of a strip is a column of the array. -/
theorem strip_col (x : FVec Ideal (Sh 6144 5120) .bf16) (d : Fin 5120) (b : Fin 48) :
    colAt (blk (stripAt x (stripOf d)) b) (colOf d) = colAt (blk x b) d := by
  funext p
  refine congrArg x (congrArg (ValueIdx.ix2 _) (Fin.ext ?_))
  show 512 * (d.val / 512) + d.val % 512 = d.val
  omega

/-! ## The gradient -/

/-- The sum over twelve chunks of 512 rows is the sum over all rows. -/
theorem sum_chunks (g : Fin 6144 → EReal) :
    ∑ k : Fin 12, ∑ q : Fin 512, g ⟨512 * k.val + q.val, by have := k.isLt; have := q.isLt; omega⟩ = ∑ t : Fin 6144, g t := by
  rw [← Fintype.sum_prod_type']
  refine Fintype.sum_equiv (finProdFinEquiv (m := 12) (n := 512)) _ _ fun p => congrArg g (Fin.ext ?_)
  show 512 * p.1.val + p.2.val = p.2.val + 512 * p.1.val
  omega

/-- Row `t`'s term of the gradient. -/
def gradTerm (gw : FVec Ideal (Sh 640 6144) .bf16) (x : FVec Ideal (Sh 6144 512) .bf16) (e : Fin 640) (d : Fin 512) (t : Fin 6144) : EReal :=
  gw (ValueIdx.ix2 e t) * colDeq e4m3 (colAt (blk x (blockOf t)) d) (placeOf t)

theorem part_apply (gw : FVec Ideal (Sh 640 6144) .bf16) (x : FVec Ideal (Sh 6144 512) .bf16) (hx : Small x) (k : Fin 12)
    (e : Fin 640) (d : Fin 512) :
    part gw x k (ValueIdx.ix2 e d) = ∑ q : Fin 512,
      gradTerm gw x e d ⟨512 * k.val + q.val, by have := k.isLt; have := q.isLt; omega⟩ := by
  refine (Ideal.matmul_plain_apply (M := 640) (K := 512) (N := 512) none _ _ _ e d).trans ?_
  rw [show (constant (F := Ideal) (Sh 640 512) .f32 0x00000000#32 (ValueIdx.ix2 e d)) = 0 from Ideal.ofBits_zero_f32, zero_add]
  refine Finset.sum_congr rfl fun q _ => ?_
  have hq := q.isLt
  have hk := k.isLt
  refine congrArg₂ (· * ·) rfl ?_
  refine (deq_apply cols512 e4m3 _ _ d (inRange_blk e4m3 tame_e4m3 x hx _ d)).trans ?_
  have eb : (⟨4 * k.val + q.val / 128, by omega⟩ : Fin 48) = blockOf ⟨512 * k.val + q.val, by omega⟩ := by
    apply Fin.ext
    show 4 * k.val + q.val / 128 = (512 * k.val + q.val) / 128
    omega
  have ep : (⟨q.val % 128, Nat.mod_lt _ (by decide)⟩ : Fin 128) = placeOf ⟨512 * k.val + q.val, by omega⟩ := by
    apply Fin.ext
    show q.val % 128 = (512 * k.val + q.val) % 128
    omega
  exact congrArg₂ (fun b p => colDeq e4m3 (colAt (blk x b) d) p) eb ep

theorem acc_apply (gw : FVec Ideal (Sh 640 6144) .bf16) (x : FVec Ideal (Sh 6144 512) .bf16) (i : (Sh 640 512).Idx) :
    ∀ (n : ℕ) (hn : n ≤ 12), acc gw x n hn i = ∑ k : Fin n, part gw x ⟨k.val, by have := k.isLt; omega⟩ i
  | 0, _ => Ideal.ofBits_zero_f32
  | n + 1, hn => by
    rw [Fin.sum_univ_castSucc]
    refine (ValueIdx.addf_apply _ _ i).trans ?_
    rw [acc_apply gw x i n]
    rfl

/-- The kernel's gradient at a column of `x` and a column of `dy`. -/
theorem gradAll_apply (y : FVec Ideal (Sh 6144 640) .bf16) (x : FVec Ideal (Sh 6144 5120) .bf16) (hy : Small y) (hx : Small x)
    (d : Fin 5120) (e : Fin 640) :
    gradAll y x (ValueIdx.ix2 d e) = ∑ t : Fin 6144,
      colDeq e5m2 (colAt (blk y (blockOf t)) e) (placeOf t) * colDeq e4m3 (colAt (blk x (blockOf t)) d) (placeOf t) := by
  show transpose (Sh 512 640) [1, 0] (acc (deqTAll cols640 e5m2 y) (stripAt x (stripOf d)) 12 le_rfl) _ (ValueIdx.ix2 (colOf d) e) = _
  rw [turn_apply, acc_apply]
  refine (Finset.sum_congr rfl fun k _ => part_apply _ _ (small_strip x hx _) k e (colOf d)).trans ?_
  refine (sum_chunks (gradTerm (deqTAll cols640 e5m2 y) (stripAt x (stripOf d)) e (colOf d))).trans ?_
  refine Finset.sum_congr rfl fun t _ => ?_
  unfold gradTerm
  rw [strip_col, deqTAll_apply cols640 e5m2 tame_e5m2 y hy e t]

open Cert.ReferenceIdeal Cert.ReferenceIdeal.Gen in
/-- The reference's product, read. -/
theorem pay1_apply (a : FVec Ideal (Sh 6144 5120) .bf16) (b : FVec Ideal (Sh 6144 640) .bf16) (d : Fin 5120) (e : Fin 640) :
    k0_pay1 a b (ValueIdx.ix2 d e) = ∑ t : Fin 6144, a (ValueIdx.ix2 t d) * b (ValueIdx.ix2 t e) := by
  have hr : dot_S6144x5120_S6144x640_S5120x640_0_0_1_1_n_n.contr.rank = 1 := rfl
  have hs : dot_S6144x5120_S6144x640_S5120x640_0_0_1_1_n_n.contr.size ⟨0, by omega⟩ = 6144 := rfl
  show FloatOps.matmul dot_S6144x5120_S6144x640_S5120x640_0_0_1_1_n_n none a b (constant S5120x640 .f32 0x00000000#32) _ = _
  rw [Ideal.matmul_constant_zero_apply, ← Equiv.sum_comp (ValueIdx.contrEquiv1 _ 6144 hr hs).symm]
  refine Finset.sum_congr rfl fun t _ => ?_
  have ht := ValueIdx.contrEquiv1_symm_val _ 6144 hr hs t
  refine congrArg₂ (· * ·) (congrArg a ?_) (congrArg b ?_)
  · funext k; apply Fin.ext
    match k with
    | ⟨0, _⟩ => exact ht
    | ⟨1, _⟩ => rfl
  · funext k; apply Fin.ext
    match k with
    | ⟨0, _⟩ => exact ht
    | ⟨1, _⟩ => rfl

/-! ## The five results -/

/-- Two arrays that agree at every pair (or triple) of coordinates are equal. -/
theorem ext2 {a b : ℕ} {α : Type} (f g : (Sh a b).Idx → α) (h : ∀ i j, f (ValueIdx.ix2 i j) = g (ValueIdx.ix2 i j)) : f = g :=
  funext fun i => (congrArg f (ValueIdx.eq_ix2 i)).trans ((h (i 0) (i 1)).trans (congrArg g (ValueIdx.eq_ix2 i)).symm)
theorem ext3 {a b e : ℕ} {α : Type} (f g : (⟨3, ![a, b, e]⟩ : Shape).Idx → α)
    (h : ∀ i j k, f (ValueIdx.ix3 i j k) = g (ValueIdx.ix3 i j k)) : f = g :=
  funext fun i => (congrArg f (ValueIdx.eq_ix3 i)).trans ((h (i 0) (i 1) (i 2)).trans (congrArg g (ValueIdx.eq_ix3 i)).symm)

theorem grad_eq (x : FVec Ideal (Sh 6144 5120) .bf16) (y : FVec Ideal (Sh 6144 640) .bf16) (hx : Small x) (hy : Small y)
    (w : FVec Ideal (R4 5120) .bf16) (z : FVec Ideal (R4 640) .bf16) (hw : Blocks w x) (hz : Blocks z y) :
    Cert.ReferenceIdeal.Gen.k0_pay1 (refDeq rcols5120 e4m3 w) (refDeq rcols640 e5m2 z) = gradAll y x := by
  refine ext2 _ _ fun d t => ?_
  rw [pay1_apply, gradAll_apply y x hy hx]
  refine Finset.sum_congr rfl fun r _ => ?_
  rw [refDeq_apply rcols5120 e4m3 w x hw, refDeq_apply rcols640 e5m2 z y hz]
  exact mul_comm _ _

theorem xCodes_eq (x : FVec Ideal (Sh 6144 5120) .bf16) (hx : Small x) (w : FVec Ideal (R4 5120) .bf16) (hw : Blocks w x) :
    refCodesT rcols5120 e4m3 w = xCodes x := by
  refine ext2 _ _ fun d t => ?_
  rw [refCodesT_apply rcols5120 e4m3 w x hw, ← strip_col]
  exact (codesAll_apply cols512 e4m3 tame_e4m3 _ (small_strip x hx _) _ _).symm

theorem xScales_eq (x : FVec Ideal (Sh 6144 5120) .bf16) (hx : Small x) (w : FVec Ideal (R4 5120) .bf16) (hw : Blocks w x)
    (h : (⟨3, ![12, 4, 5120]⟩ : Shape).Transposes [2, 1, 0] (RT 5120)) :
    refScaleT rcols5120 e4m3 w = transpose (RT 5120) [2, 1, 0] (xScales x) h := by
  refine ext3 _ _ fun d n b => ?_
  rw [refScaleT_apply rcols5120 e4m3 w x hw, ← strip_col]
  refine (scaleAll_apply cols512 e4m3 tame_e4m3 _ (small_strip x hx _) _ _ _).symm.trans ?_
  refine (transpose_apply [2, 1, 0] (xScales x) h _ (ValueIdx.ix3 b n d) fun a => ?_).symm
  match a with
  | ⟨0, _⟩ => rfl
  | ⟨1, _⟩ => rfl
  | ⟨2, _⟩ => rfl

theorem dyCodes_eq (y : FVec Ideal (Sh 6144 640) .bf16) (hy : Small y) (z : FVec Ideal (R4 640) .bf16) (hz : Blocks z y) :
    refCodesT rcols640 e5m2 z = codesAll cols640 e5m2 y := by
  refine ext2 _ _ fun d t => ?_
  rw [refCodesT_apply rcols640 e5m2 z y hz, codesAll_apply cols640 e5m2 tame_e5m2 y hy]

theorem dyScales_eq (y : FVec Ideal (Sh 6144 640) .bf16) (hy : Small y) (z : FVec Ideal (R4 640) .bf16) (hz : Blocks z y)
    (h : (⟨3, ![12, 4, 640]⟩ : Shape).Transposes [2, 1, 0] (RT 640)) :
    refScaleT rcols640 e5m2 z = transpose (RT 640) [2, 1, 0] (scaleAll cols640 e5m2 y) h := by
  refine ext3 _ _ fun d n b => ?_
  rw [refScaleT_apply rcols640 e5m2 z y hz]
  refine (scaleAll_apply cols640 e5m2 tame_e5m2 y hy _ _ _).symm.trans ?_
  refine (transpose_apply [2, 1, 0] (scaleAll cols640 e5m2 y) h _ (ValueIdx.ix3 b n d) fun a => ?_).symm
  match a with
  | ⟨0, _⟩ => rfl
  | ⟨1, _⟩ => rfl
  | ⟨2, _⟩ => rfl

end Cert.Quant

end
-- ==== Proof.lean ====
/- The certificate. Both programs run to a known value for each of the five results (`KernelValue`, `RefRun`); on finite
   arguments those values are equal over the extended reals (`Equation`). -/
module

public import proofs.«01_k».proof.Defs
public import proofs.«01_k».proof.Proof.Gen.Kernel.Frame
public import proofs.«01_k».proof.Proof.Gen.Kernel.Skeleton
public import proofs.«01_k».proof.Proof.Gen.KernelIdeal.Frame
public import proofs.«01_k».proof.Proof.Gen.KernelIdeal.Skeleton
public import proofs.«01_k».proof.Proof.Gen.Pre_finite_bf16
public import proofs.«01_k».proof.Proof.Gen.ReferenceIdeal.Frame
public import proofs.«01_k».proof.Proof.KernelFrame
public import proofs.«01_k».proof.Proof.KernelValue
public import proofs.«01_k».proof.Proof.RefRun
public import proofs.«01_k».proof.Proof.Equation

@[expose] public section

namespace Cert.Proof

open Idealize.ShloMosaic Idealize.SL.Sem Cert.Quant

/-- The five results of the kernel and of the reference, on arguments that are the same and finite. -/
theorem algebraic : Cert.algebraic_KernelIdeal_ReferenceIdeal_pre_finite_bf16 (hKernelIdeal := Cert.KernelIdeal.Gen.facts)
    (hReferenceIdeal := Cert.ReferenceIdeal.Gen.facts) (hPre_finite_bf16 := Cert.Pre_finite_bf16.Gen.facts) := by
  intro m g m' g' hpre hargs
  have hx (c : Dev Cert.KernelIdeal.nD) : Small (Cert.KernelIdeal.Body.X2 m c) := small_cast _ _ (small_of_pre _ _ (hpre c)).1
  have hy (c : Dev Cert.KernelIdeal.nD) : Small (Cert.KernelIdeal.Body.DY2 m c) := small_cast _ _ (small_of_pre _ _ (hpre c)).2
  have bx (c : Dev Cert.KernelIdeal.nD) :
      Blocks (Cert.ReferenceIdeal.Gen.k0_pay2 (Cert.ReferenceIdeal.Run.X m' c)) (Cert.KernelIdeal.Body.X2 m c) := by
    rw [show Cert.ReferenceIdeal.Run.X m' c = _ from (hargs c).1]
    exact blocks_of _ _ _
  have bz (c : Dev Cert.KernelIdeal.nD) :
      Blocks (Cert.ReferenceIdeal.Gen.k0_pay9 (Cert.ReferenceIdeal.Run.DY m' c)) (Cert.KernelIdeal.Body.DY2 m c) := by
    rw [show Cert.ReferenceIdeal.Run.DY m' c = _ from (hargs c).2]
    exact blocks_of _ _ _
  refine ⟨_, _, _, _, _, Cert.KernelIdeal.Body.run m g, ?_⟩
  refine (θ_run _ _ _).mono (fun r h c => ?_) (Cert.ReferenceIdeal.Run.run m' g')
  obtain ⟨h0, h1, h2, h3, h4, ha, hb⟩ := h c
  refine ⟨h0.trans ?_, h1.trans ?_, h2.trans ?_, h3.trans ?_, h4.trans ?_, ha, hb⟩
  · rw [pay6_eq, pay13_eq]
    exact grad_eq _ _ (hx c) (hy c) _ _ (bx c) (bz c)
  · rw [pay7_eq]
    exact xCodes_eq _ (hx c) _ (bx c)
  · rw [pay8_eq]
    exact xScales_eq _ (hx c) _ (bx c) _
  · rw [pay14_eq]
    exact dyCodes_eq _ (hy c) _ (bz c)
  · rw [pay15_eq]
    exact dyScales_eq _ (hy c) _ (bz c) _

theorem claim : Cert.Claim :=
  ⟨Cert.Kernel.Gen.facts, Cert.KernelIdeal.Gen.facts, Cert.ReferenceIdeal.Gen.facts, Cert.Pre_finite_bf16.Gen.facts,
    fun m ρ _ => Cert.Kernel.Body.frame m ρ, fun m ρ _ => Cert.KernelIdeal.Body.frame m ρ,
    fun m ρ _ => Cert.KernelIdeal.Body.frame m ρ, fun m ρ _ => Cert.ReferenceIdeal.Gen.frame m ρ,
    fun m ρ _ => Cert.ReferenceIdeal.Gen.frame m ρ, trivial, algebraic⟩

end Cert.Proof
